-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v15) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v55) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S4x384x32x32 : Shape := ⟨4, ![4, 384, 32, 32]⟩
abbrev S10x3x4x384x32x32 : Shape := ⟨6, ![10, 3, 4, 384, 32, 32]⟩
abbrev S4x32x32x384 : Shape := ⟨4, ![4, 32, 32, 384]⟩
abbrev S4096x384 : Shape := ⟨2, ![4096, 384]⟩
abbrev S10x3x4x32x32x384 : Shape := ⟨6, ![10, 3, 4, 32, 32, 384]⟩
abbrev S10x3x4096x384 : Shape := ⟨4, ![10, 3, 4096, 384]⟩
abbrev S1x1 : Shape := ⟨2, ![1, 1]⟩
abbrev S4096x768 : Shape := ⟨2, ![4096, 768]⟩
abbrev S2048x384 : Shape := ⟨2, ![2048, 384]⟩
abbrev S1x3x2048x384 : Shape := ⟨4, ![1, 3, 2048, 384]⟩
abbrev S32x1x384 : Shape := ⟨3, ![32, 1, 384]⟩
abbrev S1x2048 : Shape := ⟨2, ![1, 2048]⟩
abbrev S1x1x2048x384 : Shape := ⟨4, ![1, 1, 2048, 384]⟩
abbrev S1x384 : Shape := ⟨2, ![1, 384]⟩
abbrev S1x1x384 : Shape := ⟨3, ![1, 1, 384]⟩
abbrev S32x1 : Shape := ⟨2, ![32, 1]⟩
abbrev S10x1 : Shape := ⟨2, ![10, 1]⟩
abbrev S1x10x1 : Shape := ⟨3, ![1, 10, 1]⟩
abbrev S1 : Shape := ⟨1, ![1]⟩
abbrev S1x1x1 : Shape := ⟨3, ![1, 1, 1]⟩
abbrev S4x1024x768 : Shape := ⟨3, ![4, 1024, 768]⟩
abbrev S3x4x1024x384 : Shape := ⟨4, ![3, 4, 1024, 384]⟩
abbrev S1x1x1024x384 : Shape := ⟨4, ![1, 1, 1024, 384]⟩
abbrev S1x1024x384 : Shape := ⟨3, ![1, 1024, 384]⟩
abbrev S1024x384 : Shape := ⟨2, ![1024, 384]⟩
abbrev S3x4x32x32x384 : Shape := ⟨5, ![3, 4, 32, 32, 384]⟩
abbrev S3x4x384x32x32 : Shape := ⟨5, ![3, 4, 384, 32, 32]⟩
abbrev S4x32x32x768 : Shape := ⟨4, ![4, 32, 32, 768]⟩
abbrev S4x768x32x32 : Shape := ⟨4, ![4, 768, 32, 32]⟩

abbrev nBuf : Space → Nat
  | .hbm => 31
  | .vmem => 25
  | .smem => 2
  | _ => 0

abbrev bufTy : (tb : Table) → Fin (tcTables nBuf tb) → BufTy
  | .hbm, ⟨0, _⟩ => ⟨S4x384x32x32, .f32⟩
  | .hbm, ⟨1, _⟩ => ⟨S4x384x32x32, .f32⟩
  | .hbm, ⟨2, _⟩ => ⟨S4x384x32x32, .f32⟩
  | .hbm, ⟨3, _⟩ => ⟨S10x3x4x384x32x32, .f32⟩
  | .hbm, ⟨4, _⟩ => ⟨S4x32x32x384, .f32⟩
  | .hbm, ⟨5, _⟩ => ⟨S4096x384, .f32⟩
  | .hbm, ⟨6, _⟩ => ⟨S4x32x32x384, .f32⟩
  | .hbm, ⟨7, _⟩ => ⟨S4096x384, .f32⟩
  | .hbm, ⟨8, _⟩ => ⟨S4x32x32x384, .f32⟩
  | .hbm, ⟨9, _⟩ => ⟨S4096x384, .f32⟩
  | .hbm, ⟨10, _⟩ => ⟨S10x3x4x32x32x384, .f32⟩
  | .hbm, ⟨11, _⟩ => ⟨S10x3x4096x384, .f32⟩
  | .hbm, ⟨12, _⟩ => ⟨S1x1, .i32⟩
  | .hbm, ⟨13, _⟩ => ⟨S4096x768, .f32⟩
  | .hbm, ⟨14, _⟩ => ⟨S4096x768, .f32⟩
  | .hbm, ⟨15, _⟩ => ⟨S4096x768, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S4x1024x768, .f32⟩
  | .hbm, ⟨20, _⟩ => ⟨S4x1024x768, .f32⟩
  | .hbm, ⟨21, _⟩ => ⟨S4x1024x768, .f32⟩
  | .hbm, ⟨22, _⟩ => ⟨S3x4x1024x384, .f32⟩
  | .hbm, ⟨23, _⟩ => ⟨S3x4x32x32x384, .f32⟩
  | .hbm, ⟨24, _⟩ => ⟨S3x4x384x32x32, .f32⟩
  | .hbm, ⟨25, _⟩ => ⟨S4x32x32x768, .f32⟩
  | .hbm, ⟨26, _⟩ => ⟨S4x768x32x32, .f32⟩
  | .hbm, ⟨27, _⟩ => ⟨S4x32x32x768, .f32⟩
  | .hbm, ⟨28, _⟩ => ⟨S4x768x32x32, .f32⟩
  | .hbm, ⟨29, _⟩ => ⟨S4x32x32x768, .f32⟩
  | .hbm, ⟨30, _⟩ => ⟨S4x768x32x32, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S2048x384, .f32⟩
  | .local _ .vmem, ⟨5, _⟩ => ⟨S2048x384, .f32⟩
  | .local _ .vmem, ⟨6, _⟩ => ⟨S1x3x2048x384, .f32⟩
  | .local _ .vmem, ⟨7, _⟩ => ⟨S1x3x2048x384, .f32⟩
  | .local _ .vmem, ⟨8, _⟩ => ⟨S2048x384, .f32⟩
  | .local _ .vmem, ⟨9, _⟩ => ⟨S2048x384, .f32⟩
  | .local _ .vmem, ⟨10, _⟩ => ⟨S2048x384, .f32⟩
  | .local _ .vmem, ⟨11, _⟩ => ⟨S2048x384, .f32⟩
  | .local _ .vmem, ⟨12, _⟩ => ⟨S2048x384, .f32⟩
  | .local _ .vmem, ⟨13, _⟩ => ⟨S2048x384, .f32⟩
  | .local _ .vmem, ⟨14, _⟩ => ⟨S32x1x384, .f32⟩
  | .local _ .vmem, ⟨15, _⟩ => ⟨S1x1x1024x384, .f32⟩
  | .local _ .vmem, ⟨16, _⟩ => ⟨S1x1x1024x384, .f32⟩
  | .local _ .vmem, ⟨17, _⟩ => ⟨S1x1024x384, .f32⟩
  | .local _ .vmem, ⟨18, _⟩ => ⟨S1x1024x384, .f32⟩
  | .local _ .vmem, ⟨19, _⟩ => ⟨S1x1024x384, .f32⟩
  | .local _ .vmem, ⟨20, _⟩ => ⟨S1x1024x384, .f32⟩
  | .local _ .vmem, ⟨21, _⟩ => ⟨S1x1024x384, .f32⟩
  | .local _ .vmem, ⟨22, _⟩ => ⟨S1x1024x384, .f32⟩
  | .local _ .vmem, ⟨23, _⟩ => ⟨S1x1x1024x384, .f32⟩
  | .local _ .vmem, ⟨24, _⟩ => ⟨S1x1x1024x384, .f32⟩
  | .local _ .smem, ⟨0, _⟩ => ⟨S1x1, .i32⟩
  | .local _ .smem, ⟨1, _⟩ => ⟨S1, .i32⟩
  | _, _ => ⟨S4x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v13_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24

abbrev nD : Nat := 1
abbrev τ : Topo := Topo.v7x

variable {F : FTy → Type} [FloatOps F]

abbrev grid0 : Pipeline.Grid := ⟨2, ![2, 10], ![false, false]⟩

def k0_off1 (i : grid0.Coords) (c0_i32_10 : BitVec 32) : Fin 3 → Nat :=
  let arg1 : BitVec 32 := BitVec.ofNat 32 (i 1).val
  let v16 : BitVec 32 := Scalar.addi c0_i32_10 arg1
  let v17 : Index := Scalar.indexCast v16
  let c0_11 : Index := 0#32
  let c0_12 : Index := 0#32
  ![v17.toNat, 0, 0]
def k0_cond3 (i : grid0.Coords) : BitVec 1 :=
  let arg0 : BitVec 32 := BitVec.ofNat 32 (i 0).val
  let c1_i32 : BitVec 32 := 1#32
  let v57 : BitVec 1 := Scalar.cmpi .eq arg0 c1_i32
  let arg1 : BitVec 32 := BitVec.ofNat 32 (i 1).val
  let c9_i32 : BitVec 32 := 9#32
  let v58 : BitVec 1 := Scalar.cmpi .eq arg1 c9_i32
  let v59 : BitVec 1 := Scalar.andi v57 v58
  let v60 : BitVec 32 := Scalar.extui v59
  let c0_i32_35 : BitVec 32 := 0#32
  let v61 : BitVec 1 := Scalar.cmpi .ne v60 c0_i32_35
  v61

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x2048x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S1x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 3], ![false, false]⟩

abbrev pre1 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_3 : BitVec 32 := 0#32
  let v4 : BitVec 1 := Scalar.cmpi .ne v3 c0_i32_3
  v4

def k1_cond2 (i : grid1.Coords) : BitVec 1 :=
  let arg1 : BitVec 32 := BitVec.ofNat 32 (i 1).val
  let c1_i32 : BitVec 32 := 1#32
  let v5 : BitVec 1 := Scalar.cmpi .eq arg1 c1_i32
  let v6 : BitVec 32 := Scalar.extui v5
  let c0_i32_4 : BitVec 32 := 0#32
  let v7 : BitVec 1 := Scalar.cmpi .ne v6 c0_i32_4
  v7

def k1_cond3 (i : grid1.Coords) : BitVec 1 :=
  let arg1 : BitVec 32 := BitVec.ofNat 32 (i 1).val
  let c2_i32 : BitVec 32 := 2#32
  let v8 : BitVec 1 := Scalar.cmpi .eq arg1 c2_i32
  let v9 : BitVec 32 := Scalar.extui v8
  let c0_i32_5 : BitVec 32 := 0#32
  let v10 : BitVec 1 := Scalar.cmpi .ne v9 c0_i32_5
  v10

def cc1_transform_0 (inb_S1_S1_0 : ∀ a, (![0] : Fin 1 → Nat) a + S1.size a ≤ S1.size a) (numel1_S1 : S1.numel = 1) (pf : pre1.Contents (Elt F)) (i : grid1.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage1_0 : Fin 2 → Memref sig .tc .vmem S1x1x1024x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x384 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x384 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1024x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x384x32x32 : Shape := ⟨4, ![4, 384, 32, 32]⟩
abbrev S10x3x4x384x32x32 : Shape := ⟨6, ![10, 3, 4, 384, 32, 32]⟩
abbrev S10x1x4x384x32x32 : Shape := ⟨6, ![10, 1, 4, 384, 32, 32]⟩
abbrev S10x4x384x32x32 : Shape := ⟨5, ![10, 4, 384, 32, 32]⟩
abbrev S1x4x384x32x32 : Shape := ⟨5, ![1, 4, 384, 32, 32]⟩
abbrev S_ : Shape := ⟨0, ![]⟩
abbrev S10 : Shape := ⟨1, ![10]⟩
abbrev S1x3x4x384x32x32 : Shape := ⟨6, ![1, 3, 4, 384, 32, 32]⟩
abbrev S3x4x384x32x32 : Shape := ⟨5, ![3, 4, 384, 32, 32]⟩
abbrev S4x768x32x32 : Shape := ⟨4, ![4, 768, 32, 32]⟩

abbrev nBuf : Space → Nat
  | .hbm => 94
  | .vmem => 0
  | .smem => 0
  | _ => 0

abbrev bufTy : (tb : Table) → Fin (tcTables nBuf tb) → BufTy
  | .hbm, ⟨0, _⟩ => ⟨S4x384x32x32, .f32⟩
  | .hbm, ⟨1, _⟩ => ⟨S4x384x32x32, .f32⟩
  | .hbm, ⟨2, _⟩ => ⟨S4x384x32x32, .f32⟩
  | .hbm, ⟨3, _⟩ => ⟨S10x3x4x384x32x32, .f32⟩
  | .hbm, ⟨4, _⟩ => ⟨S10x1x4x384x32x32, .f32⟩
  | .hbm, ⟨5, _⟩ => ⟨S10x4x384x32x32, .f32⟩
  | .hbm, ⟨6, _⟩ => ⟨S1x4x384x32x32, .f32⟩
  | .hbm, ⟨7, _⟩ => ⟨S10x4x384x32x32, .f32⟩
  | .hbm, ⟨8, _⟩ => ⟨S10x4x384x32x32, .f32⟩
  | .hbm, ⟨9, _⟩ => ⟨S10x4x384x32x32, .f32⟩
  | .hbm, ⟨10, _⟩ => ⟨S_, .f32⟩
  | .hbm, ⟨11, _⟩ => ⟨S10, .f32⟩
  | .hbm, ⟨12, _⟩ => ⟨S10, .f32⟩
  | .hbm, ⟨13, _⟩ => ⟨S10x1x4x384x32x32, .f32⟩
  | .hbm, ⟨14, _⟩ => ⟨S10x4x384x32x32, .f32⟩
  | .hbm, ⟨15, _⟩ => ⟨S1x4x384x32x32, .f32⟩
  | .hbm, ⟨16, _⟩ => ⟨S10x4x384x32x32, .f32⟩
  | .hbm, ⟨17, _⟩ => ⟨S10x4x384x32x32, .f32⟩
  | .hbm, ⟨18, _⟩ => ⟨S10x4x384x32x32, .f32⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S10x1x4x384x32x32, .f32⟩
  | .hbm, ⟨24, _⟩ => ⟨S10x4x384x32x32, .f32⟩
  | .hbm, ⟨25, _⟩ => ⟨S1x4x384x32x32, .f32⟩
  | .hbm, ⟨26, _⟩ => ⟨S10x4x384x32x32, .f32⟩
  | .hbm, ⟨27, _⟩ => ⟨S10x4x384x32x32, .f32⟩
  | .hbm, ⟨28, _⟩ => ⟨S10x4x384x32x32, .f32⟩
  | .hbm, ⟨29, _⟩ => ⟨S_, .f32⟩
  | .hbm, ⟨30, _⟩ => ⟨S10, .f32⟩
  | .hbm, ⟨31, _⟩ => ⟨S10, .f32⟩
  | .hbm, ⟨32, _⟩ => ⟨S10, .f32⟩
  | .hbm, ⟨33, _⟩ => ⟨S10, .i32⟩
  | .hbm, ⟨34, _⟩ => ⟨S_, .f32⟩
  | .hbm, ⟨35, _⟩ => ⟨S_, .i32⟩
  | .hbm, ⟨36, _⟩ => ⟨S_, .f32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i1⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S1x3x4x384x32x32, .f32⟩
  | .hbm, ⟨84, _⟩ => ⟨S3x4x384x32x32, .f32⟩
  | .hbm, ⟨85, _⟩ => ⟨S1x4x384x32x32, .f32⟩
  | .hbm, ⟨86, _⟩ => ⟨S4x384x32x32, .f32⟩
  | .hbm, ⟨87, _⟩ => ⟨S4x768x32x32, .f32⟩
  | .hbm, ⟨88, _⟩ => ⟨S1x4x384x32x32, .f32⟩
  | .hbm, ⟨89, _⟩ => ⟨S4x384x32x32, .f32⟩
  | .hbm, ⟨90, _⟩ => ⟨S4x768x32x32, .f32⟩
  | .hbm, ⟨91, _⟩ => ⟨S1x4x384x32x32, .f32⟩
  | .hbm, ⟨92, _⟩ => ⟨S4x384x32x32, .f32⟩
  | .hbm, ⟨93, _⟩ => ⟨S4x768x32x32, .f32⟩
  | _, _ => ⟨S4x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_v0 : Ref sig .tc := ⟨.hbm, 33, rfl⟩
abbrev main_call0_cst : Ref sig .tc := ⟨.hbm, 34, rfl⟩
abbrev main_call0_c : Ref sig .tc := ⟨.hbm, 35, rfl⟩
abbrev main_call0_v1_0 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_c_4 : Ref sig .tc := ⟨.hbm, 44, rfl⟩
abbrev main_v30 : Ref sig .tc := ⟨.hbm, 45, rfl⟩
abbrev main_c_5 : Ref sig .tc := ⟨.hbm, 46, rfl⟩
abbrev main_c_6 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_c_8 : Ref sig .tc := ⟨.hbm, 51, rfl⟩
abbrev main_c_9 : Ref sig .tc := ⟨.hbm, 52, rfl⟩
abbrev main_v33 : Ref sig .tc := ⟨.hbm, 53, rfl⟩
abbrev main_c_10 : Ref sig .tc := ⟨.hbm, 54, rfl⟩
abbrev main_c_11 : Ref sig .tc := ⟨.hbm, 55, rfl⟩
abbrev main_v34 : Ref sig .tc := ⟨.hbm, 56, rfl⟩
abbrev main_c_12 : Ref sig .tc := ⟨.hbm, 57, rfl⟩
abbrev main_v35 : Ref sig .tc := ⟨.hbm, 58, rfl⟩
abbrev main_c_13 : Ref sig .tc := ⟨.hbm, 59, rfl⟩
abbrev main_c_14 : Ref sig .tc := ⟨.hbm, 60, rfl⟩
abbrev main_v36 : Ref sig .tc := ⟨.hbm, 61, rfl⟩
abbrev main_c_15 : Ref sig .tc := ⟨.hbm, 62, rfl⟩
abbrev main_c_16 : Ref sig .tc := ⟨.hbm, 63, rfl⟩
abbrev main_v37 : Ref sig .tc := ⟨.hbm, 64, rfl⟩
abbrev main_c_17 : Ref sig .tc := ⟨.hbm, 65, rfl⟩
abbrev main_v38 : Ref sig .tc := ⟨.hbm, 66, rfl⟩
abbrev main_c_18 : Ref sig .tc := ⟨.hbm, 67, rfl⟩
abbrev main_c_19 : Ref sig .tc := ⟨.hbm, 68, rfl⟩
abbrev main_v39 : Ref sig .tc := ⟨.hbm, 69, rfl⟩
abbrev main_c_20 : Ref sig .tc := ⟨.hbm, 70, rfl⟩
abbrev main_c_21 : Ref sig .tc := ⟨.hbm, 71, rfl⟩
abbrev main_v40 : Ref sig .tc := ⟨.hbm, 72, rfl⟩
abbrev main_c_22 : Ref sig .tc := ⟨.hbm, 73, rfl⟩
abbrev main_v41 : Ref sig .tc := ⟨.hbm, 74, rfl⟩
abbrev main_c_23 : Ref sig .tc := ⟨.hbm, 75, rfl⟩
abbrev main_c_24 : Ref sig .tc := ⟨.hbm, 76, rfl⟩
abbrev main_v42 : Ref sig .tc := ⟨.hbm, 77, rfl⟩
abbrev main_c_25 : Ref sig .tc := ⟨.hbm, 78, rfl⟩
abbrev main_c_26 : Ref sig .tc := ⟨.hbm, 79, rfl⟩
abbrev main_v43 : Ref sig .tc := ⟨.hbm, 80, rfl⟩
abbrev main_c_27 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩

abbrev nD : Nat := 1
abbrev τ : Topo := Topo.v7x

variable {F : FTy → Type} [FloatOps F]
-- ==== Proof.Phase1Body.lean ====
module

public import proofs.«01_k».proof.Proof.Gen.KernelIdeal.Points
public import proofs.«01_k».proof.Proof.Gen.KernelIdeal.Skeleton
public import Idealize.ShloMosaic.Lib.Tactic
public import Idealize.ShloMosaic.Lib.VecWindow

@[expose] public section

set_option maxRecDepth 16384

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources: the pipeline library's, beside the counters of the transfers' invariants. -/
abbrev UU : Type := UR sig nD τ × Counters

local notation "𝕄" => MT nD τ sig Unit (Elt F) ℕ UU ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The whole contents of a staging buffer that reads `X`, held. -/
abbrev own (c : Dev nD) {sp : Space} {S : Shape} {e : EltTy} (M : Memref sig .tc sp S e) (X : S.Idx → Elt F e) : sProp 𝕄 :=
  owns (c : Thread nD τ) M fullShare X

/-- A row of the accumulator with `v` put in place of row `o`. -/
abbrev putRow (A : S32x1x384.Idx → Elt F .f32) (o : ℕ) (v : S1x1x384.Idx → Elt F .f32) : S32x1x384.Idx → Elt F .f32 :=
  VecWindow.put A (![o, 0, 0] : Fin 3 → ℕ) S1x1x384.size v

/-- Where a point's row of table `r` lies in the accumulator. -/
theorem k0_off1_eq (i : grid0.Coords) (r : Fin 3) : k0_off1 i (BitVec.ofNat 32 (10 * r.val)) = ![10 * r.val + (i 1).val, 0, 0] := by
  have h : (i 1).val < 10 := (i 1).isLt
  have hr := r.isLt
  unfold k0_off1
  dsimp only [Scalar.addi, Scalar.indexCast, IntOp.addi]
  rw [← BitVec.ofNat_add, BitVec.toNat_ofNat, Nat.mod_eq_of_lt (by omega)]

/-- What loading one row of the accumulator at point `i`, table `r`, reads. -/
abbrev getRow (A : S32x1x384.Idx → Elt F .f32) (i : grid0.Coords) (r : Fin 3) : S1x1x384.Idx → Elt F .f32 :=
  VecWindow.window A (![10 * r.val + (i 1).val, 0, 0] : Fin 3 → ℕ) S1x1x384.size (by rw [← k0_off1_eq i r]; exact k0_off1_inb i r)

/-- The accumulator after one grid point: each table's row gains that block's column sums of squared differences. -/
def stepAcc (i : grid0.Coords) (x0 x1 x2 : S2048x384.Idx → Elt F .f32) (x3 : S1x3x2048x384.Idx → Elt F .f32)
    (A : S32x1x384.Idx → Elt F .f32) : S32x1x384.Idx → Elt F .f32 :=
  let A1 := putRow A (10 * (0 : Fin 3).val + (i 1).val) (k0_pay9 (VecWindow.window x3 ![0, 0, 0, 0] S1x1x2048x384.size inb_S1x3x2048x384_S1x1x2048x384_0_0_0_0) x0 (getRow A i 0))
  let A2 := putRow A1 (10 * (1 : Fin 3).val + (i 1).val) (k0_pay1 k0_pay8 (k0_pay10 (VecWindow.window x3 ![0, 1, 0, 0] S1x1x2048x384.size inb_S1x3x2048x384_S1x1x2048x384_0_1_0_0) x1) (getRow A i 1))
  putRow A2 (10 * (2 : Fin 3).val + (i 1).val) (k0_pay2 k0_pay8 (VecWindow.window x3 ![0, 2, 0, 0] S1x1x2048x384.size inb_S1x3x2048x384_S1x1x2048x384_0_2_0_0) x2 (getRow A i 2))

/-- The word the last point writes: the selected index, over the accumulated sums. -/
def selIdx (A : S32x1x384.Idx → Elt F .f32) : S1x1.Idx → Elt F .i32 :=
  fun _ => extractAt ![0, 0, 0] (k0_pay3 A) inpos_S1x1x1_p0_0_0

/-- The condition of the first store: the very first grid point. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The accumulator a point starts from: zeros at the very first, what is there otherwise. -/
abbrev startAcc (i : grid0.Coords) (A : S32x1x384.Idx → Elt F .f32) : S32x1x384.Idx → Elt F .f32 :=
  if cond1 i = 1#1 then k0_pay4 else A

theorem getRow_inb (i : grid0.Coords) (r : Fin 3) (a : Fin 3) :
    (![10 * r.val + (i 1).val, 0, 0] : Fin 3 → ℕ) a + S1x1x384.size a ≤ S32x1x384.size a := by
  rw [← k0_off1_eq i r]; exact k0_off1_inb i r a

/-- The pieces the body stores into the accumulator over what is there: the third table's row over the second's over the first's,
    each the row loaded just before plus that table's sums. -/
abbrev rowPieces (i : grid0.Coords) (M0 M1 M2 : Memref sig .tc .vmem S2048x384 .f32) (M3 : Memref sig .tc .vmem S1x3x2048x384 .f32)
    (v : View sig .tc .vmem S32x1x384 .f32) (f0 : M0.view.ty.Contents (Elt F)) (f1 : M1.view.ty.Contents (Elt F))
    (f2 : M2.view.ty.Contents (Elt F)) (f3 : M3.view.ty.Contents (Elt F)) (f : v.ty.Contents (Elt F)) (L : List (View.Piece (Elt F) S32x1x384 .f32)) :
    List (View.Piece (Elt F) S32x1x384 .f32) :=
  let L1 : List (View.Piece (Elt F) S32x1x384 .f32) :=
    ⟨Rect.unit (s := S32x1x384) (k0_off1 i 0#32) S1x1x384.size (k0_off1_inb i 0),
      k0_pay9 (View.readAt (Elt F) M3.view (Rect.unit (s := S1x3x2048x384) ![0, 0, 0, 0] S1x1x2048x384.size inb_S1x3x2048x384_S1x1x2048x384_0_0_0_0).toLoadRect f3)
        (View.readAt (Elt F) M0.view (Rect.unit (s := S2048x384) ![0, 0] S2048x384.size inb_S2048x384_S2048x384_0_0).toLoadRect f0)
        (View.readAt (Elt F) v (Rect.unit (s := S32x1x384) (k0_off1 i 0#32) S1x1x384.size (k0_off1_inb i 0)).toLoadRect (v.writes (Elt F) f L))⟩ :: L
  let L2 : List (View.Piece (Elt F) S32x1x384 .f32) :=
    ⟨Rect.unit (s := S32x1x384) (k0_off1 i 10#32) S1x1x384.size (k0_off1_inb i 1),
      k0_pay1 k0_pay8 (k0_pay10 (View.readAt (Elt F) M3.view (Rect.unit (s := S1x3x2048x384) ![0, 1, 0, 0] S1x1x2048x384.size inb_S1x3x2048x384_S1x1x2048x384_0_1_0_0).toLoadRect f3)
        (View.readAt (Elt F) M1.view (Rect.unit (s := S2048x384) ![0, 0] S2048x384.size inb_S2048x384_S2048x384_0_0).toLoadRect f1))
        (View.readAt (Elt F) v (Rect.unit (s := S32x1x384) (k0_off1 i 10#32) S1x1x384.size (k0_off1_inb i 1)).toLoadRect (v.writes (Elt F) f L1))⟩ :: L1
  ⟨Rect.unit (s := S32x1x384) (k0_off1 i 20#32) S1x1x384.size (k0_off1_inb i 2),
      k0_pay2 k0_pay8 (View.readAt (Elt F) M3.view (Rect.unit (s := S1x3x2048x384) ![0, 2, 0, 0] S1x1x2048x384.size inb_S1x3x2048x384_S1x1x2048x384_0_2_0_0).toLoadRect f3)
        (View.readAt (Elt F) M2.view (Rect.unit (s := S2048x384) ![0, 0] S2048x384.size inb_S2048x384_S2048x384_0_0).toLoadRect f2)
        (View.readAt (Elt F) v (Rect.unit (s := S32x1x384) (k0_off1 i 20#32) S1x1x384.size (k0_off1_inb i 2)).toLoadRect (v.writes (Elt F) f L2))⟩ :: L2

/-- The same pieces, each row loaded from the contents the point starts from: the rows do not overlap. -/
abbrev rowPieces' (i : grid0.Coords) (M0 M1 M2 : Memref sig .tc .vmem S2048x384 .f32) (M3 : Memref sig .tc .vmem S1x3x2048x384 .f32)
    (v : View sig .tc .vmem S32x1x384 .f32) (f0 : M0.view.ty.Contents (Elt F)) (f1 : M1.view.ty.Contents (Elt F))
    (f2 : M2.view.ty.Contents (Elt F)) (f3 : M3.view.ty.Contents (Elt F)) (f : v.ty.Contents (Elt F)) :
    List (View.Piece (Elt F) S32x1x384 .f32) :=
  [⟨Rect.unit (s := S32x1x384) (k0_off1 i 20#32) S1x1x384.size (k0_off1_inb i 2),
      k0_pay2 k0_pay8 (View.readAt (Elt F) M3.view (Rect.unit (s := S1x3x2048x384) ![0, 2, 0, 0] S1x1x2048x384.size inb_S1x3x2048x384_S1x1x2048x384_0_2_0_0).toLoadRect f3)
        (View.readAt (Elt F) M2.view (Rect.unit (s := S2048x384) ![0, 0] S2048x384.size inb_S2048x384_S2048x384_0_0).toLoadRect f2)
        (View.readAt (Elt F) v (Rect.unit (s := S32x1x384) (k0_off1 i 20#32) S1x1x384.size (k0_off1_inb i 2)).toLoadRect f)⟩,
    ⟨Rect.unit (s := S32x1x384) (k0_off1 i 10#32) S1x1x384.size (k0_off1_inb i 1),
      k0_pay1 k0_pay8 (k0_pay10 (View.readAt (Elt F) M3.view (Rect.unit (s := S1x3x2048x384) ![0, 1, 0, 0] S1x1x2048x384.size inb_S1x3x2048x384_S1x1x2048x384_0_1_0_0).toLoadRect f3)
        (View.readAt (Elt F) M1.view (Rect.unit (s := S2048x384) ![0, 0] S2048x384.size inb_S2048x384_S2048x384_0_0).toLoadRect f1))
        (View.readAt (Elt F) v (Rect.unit (s := S32x1x384) (k0_off1 i 10#32) S1x1x384.size (k0_off1_inb i 1)).toLoadRect f)⟩,
    ⟨Rect.unit (s := S32x1x384) (k0_off1 i 0#32) S1x1x384.size (k0_off1_inb i 0),
      k0_pay9 (View.readAt (Elt F) M3.view (Rect.unit (s := S1x3x2048x384) ![0, 0, 0, 0] S1x1x2048x384.size inb_S1x3x2048x384_S1x1x2048x384_0_0_0_0).toLoadRect f3)
        (View.readAt (Elt F) M0.view (Rect.unit (s := S2048x384) ![0, 0] S2048x384.size inb_S2048x384_S2048x384_0_0).toLoadRect f0)
        (View.readAt (Elt F) v (Rect.unit (s := S32x1x384) (k0_off1 i 0#32) S1x1x384.size (k0_off1_inb i 0)).toLoadRect f)⟩]

/-- A row put elsewhere does not change the row read. -/
theorem getRow_putRow (A : S32x1x384.Idx → Elt F .f32) (i : grid0.Coords) (r r' : Fin 3) (h : r' ≠ r) (v : S1x1x384.Idx → Elt F .f32) :
    getRow (putRow A (10 * r'.val + (i 1).val) v) i r = getRow A i r := by
  have h1 : (i 1).val < 10 := (i 1).isLt
  refine VecWindow.window_put_of_disjoint (s := S32x1x384) A ![10 * r'.val + (i 1).val, 0, 0] S1x1x384.size
    ![10 * r.val + (i 1).val, 0, 0] S1x1x384.size (getRow_inb i r) v 0 ?_
  have : r'.val ≠ r.val := fun e => h (Fin.ext e)
  show 10 * r.val + (i 1).val + 1 ≤ 10 * r'.val + (i 1).val ∨ 10 * r'.val + (i 1).val + 1 ≤ 10 * r.val + (i 1).val
  omega

/-- Those pieces over contents that read `X` leave `stepAcc` of `X`. -/
theorem rowPieces_read (i : grid0.Coords) (M0 M1 M2 : Memref sig .tc .vmem S2048x384 .f32) (M3 : Memref sig .tc .vmem S1x3x2048x384 .f32)
    (v : View sig .tc .vmem S32x1x384 .f32) (f0 : M0.view.ty.Contents (Elt F)) (f1 : M1.view.ty.Contents (Elt F))
    (f2 : M2.view.ty.Contents (Elt F)) (f3 : M3.view.ty.Contents (Elt F)) (f : v.ty.Contents (Elt F)) (L : List (View.Piece (Elt F) S32x1x384 .f32))
    (X : S32x1x384.Idx → Elt F .f32) (hX : v.read (Elt F) (v.writes (Elt F) f L) = X) :
    v.read (Elt F) (v.writes (Elt F) f (rowPieces i M0 M1 M2 M3 v f0 f1 f2 f3 f L))
      = stepAcc i (M0.view.read (Elt F) f0) (M1.view.read (Elt F) f1) (M2.view.read (Elt F) f2) (M3.view.read (Elt F) f3) X := by
  have o0 : k0_off1 i 0#32 = ![10 * (0 : Fin 3).val + (i 1).val, 0, 0] := k0_off1_eq i 0
  have o1 : k0_off1 i 10#32 = ![10 * (1 : Fin 3).val + (i 1).val, 0, 0] := k0_off1_eq i 1
  have o2 : k0_off1 i 20#32 = ![10 * (2 : Fin 3).val + (i 1).val, 0, 0] := k0_off1_eq i 2
  unfold rowPieces stepAcc
  extract_lets L1 L2 A1 A2
  have h1 : v.read (Elt F) (v.writes (Elt F) f L1) = A1 := by
    rw [View.read_writes_cons_put v f _ _ L o0, hX, View.readAt_unit v _ _ o0 (getRow_inb i 0), hX, View.readAt_full, View.readAt_unit _ _ _ rfl inb_S1x3x2048x384_S1x1x2048x384_0_0_0_0]
  have g1 : getRow A1 i 1 = getRow X i 1 := getRow_putRow X i 1 0 (by decide) _
  have h2 : v.read (Elt F) (v.writes (Elt F) f L2) = A2 := by
    rw [View.read_writes_cons_put v f _ _ L1 o1, View.readAt_unit v _ _ o1 (getRow_inb i 1), h1, View.readAt_full, View.readAt_unit _ _ _ rfl inb_S1x3x2048x384_S1x1x2048x384_0_1_0_0]
    exact congrArg (fun z => putRow A1 _ (k0_pay1 k0_pay8 _ z)) g1
  have g2 : getRow A2 i 2 = getRow X i 2 := (getRow_putRow A1 i 2 1 (by decide) _).trans (getRow_putRow X i 2 0 (by decide) _)
  rw [View.read_writes_cons_put v f _ _ L2 o2, View.readAt_unit v _ _ o2 (getRow_inb i 2), h2, View.readAt_full, View.readAt_unit _ _ _ rfl inb_S1x3x2048x384_S1x1x2048x384_0_2_0_0]
  exact congrArg (fun z => putRow A2 _ (k0_pay2 k0_pay8 _ _ z)) g2

/-- The same of the rows loaded from the contents the point starts from. -/
theorem rowPieces'_read (i : grid0.Coords) (M0 M1 M2 : Memref sig .tc .vmem S2048x384 .f32) (M3 : Memref sig .tc .vmem S1x3x2048x384 .f32)
    (v : View sig .tc .vmem S32x1x384 .f32) (f0 : M0.view.ty.Contents (Elt F)) (f1 : M1.view.ty.Contents (Elt F))
    (f2 : M2.view.ty.Contents (Elt F)) (f3 : M3.view.ty.Contents (Elt F)) (f : v.ty.Contents (Elt F)) :
    v.read (Elt F) (v.writes (Elt F) f (rowPieces' i M0 M1 M2 M3 v f0 f1 f2 f3 f))
      = stepAcc i (M0.view.read (Elt F) f0) (M1.view.read (Elt F) f1) (M2.view.read (Elt F) f2) (M3.view.read (Elt F) f3) (v.read (Elt F) f) := by
  have o0 : k0_off1 i 0#32 = ![10 * (0 : Fin 3).val + (i 1).val, 0, 0] := k0_off1_eq i 0
  have o1 : k0_off1 i 10#32 = ![10 * (1 : Fin 3).val + (i 1).val, 0, 0] := k0_off1_eq i 1
  have o2 : k0_off1 i 20#32 = ![10 * (2 : Fin 3).val + (i 1).val, 0, 0] := k0_off1_eq i 2
  rw [View.read_writes_cons_put v f _ _ _ o2, View.read_writes_cons_put v f _ _ _ o1, View.read_writes_cons_put v f _ _ _ o0,
    View.readAt_unit v _ _ o2 (getRow_inb i 2), View.readAt_unit v _ _ o1 (getRow_inb i 1), View.readAt_unit v _ _ o0 (getRow_inb i 0),
    View.readAt_full, View.readAt_full, View.readAt_full, View.readAt_unit M3.view _ _ rfl inb_S1x3x2048x384_S1x1x2048x384_0_0_0_0,
    View.readAt_unit M3.view _ _ rfl inb_S1x3x2048x384_S1x1x2048x384_0_1_0_0, View.readAt_unit M3.view _ _ rfl inb_S1x3x2048x384_S1x1x2048x384_0_2_0_0]
  rfl

set_option maxHeartbeats 1000000 in
/-- One run of the first kernel's body: from the nine buffers at given contents to the nine buffers at the contents
    the point leaves. -/
theorem body1 (c : Dev nD) (i : grid0.Coords)
    (M0 : Memref sig .tc .vmem S2048x384 .f32) (h0 : M0.IsWhole) (M1 : Memref sig .tc .vmem S2048x384 .f32) (h1 : M1.IsWhole)
    (M2 : Memref sig .tc .vmem S2048x384 .f32) (h2 : M2.IsWhole) (M3 : Memref sig .tc .vmem S1x3x2048x384 .f32) (h3 : M3.IsWhole)
    (M4 : Memref sig .tc .smem S1x1 .i32) (h4 : M4.IsWhole)
    (M5 : Memref sig .tc .vmem S2048x384 .f32) (h5 : M5.IsWhole) (M6 : Memref sig .tc .vmem S2048x384 .f32) (h6 : M6.IsWhole)
    (M7 : Memref sig .tc .vmem S2048x384 .f32) (h7 : M7.IsWhole) (M8 : Memref sig .tc .vmem S32x1x384 .f32) (h8 : M8.IsWhole)
    (x0 x1 x2 x5 x6 x7 : S2048x384.Idx → Elt F .f32) (x3 : S1x3x2048x384.Idx → Elt F .f32) (x4 : S1x1.Idx → Elt F .i32)
    (A : S32x1x384.Idx → Elt F .f32) (E : Set ℕ) (Q : PUnit → sProp 𝕄) :
    iprop(own c M0 x0 ∗ own c M1 x1 ∗ own c M2 x2 ∗ own c M3 x3 ∗ own c M4 x4 ∗ own c M5 x5 ∗ own c M6 x6 ∗ own c M7 x7 ∗ own c M8 A
        ∗ (iprop(own c M0 x0 ∗ own c M1 x1 ∗ own c M2 x2 ∗ own c M3 x3
            ∗ own c M4 (if k0_cond3 i = 1#1 then selIdx (stepAcc i x0 x1 x2 x3 (startAcc i A)) else x4)
            ∗ own c M5 (if k0_cond2 i = 1#1 then k0_pay5 x0 else x5)
            ∗ own c M6 (if k0_cond2 i = 1#1 then k0_pay6 x1 else x6)
            ∗ own c M7 (if k0_cond2 i = 1#1 then k0_pay7 x2 else x7)
            ∗ own c M8 (stepAcc i x0 x1 x2 x3 (startAcc i A))) -∗ Q ⟨⟩))
      ⊢ wp frame (wpE (defs₀ (F := F)) Variants.none c none) E (cc0__phase1_body i M0 h0 M1 h1 M2 h2 M3 h3 M4 h4 M5 h5 M6 h6 M7 h7 M8 h8) Q := by
  unfold own owns
  rw [h0.set_eq_univ, h1.set_eq_univ, h2.set_eq_univ, h3.set_eq_univ, h4.set_eq_univ, h5.set_eq_univ, h6.set_eq_univ, h7.set_eq_univ, h8.set_eq_univ]
  rw [cc0__phase1_body_eq_skeleton]
  unfold cc0__phase1_body_skel
  rw [k0_part1_eq_skeleton]
  unfold k0_part1_skel
  by_cases hc1 : cond1 i = 1#1 <;> by_cases hc2 : k0_cond2 i = 1#1 <;> by_cases hc3 : k0_cond3 i = 1#1
  all_goals
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
    subst e0 e1 e2 e3 e4 e5 e6 e7 e8
    sl_exec
    sl_step
    sl_unfold_run_names
    iapply Hk
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    isplitl [H3]; · iexists _; isplitr; swap; (· iexact H3); ipureintro; rfl
    isplitl [H4]
    · iexists _; isplitr; swap; (· iexact H4); ipureintro
      first
        | (rw [if_neg hc3]; done)
        | (rw [if_pos hc3, View.read_writes_full, startAcc, if_pos hc1]
           refine congrArg selIdx (View.readAt_full _ _ _ |>.trans ?_)
           exact rowPieces_read i M0 M1 M2 M3 M8.view f0 f1 f2 f3 _ _ _ (View.read_writes_full _ _ _ _ _))
        | (rw [if_pos hc3, View.read_writes_full, startAcc, if_neg hc1]
           refine congrArg selIdx (View.readAt_full _ _ _ |>.trans ?_)
           exact rowPieces'_read i M0 M1 M2 M3 M8.view f0 f1 f2 f3 f8)
    isplitl [H5]
    · iexists _; isplitr; swap; (· iexact H5); ipureintro
      first | (rw [if_neg hc2]; done) | rw [if_pos hc2, View.read_writes_full, View.readAt_full]
    isplitl [H6]
    · iexists _; isplitr; swap; (· iexact H6); ipureintro
      first | (rw [if_neg hc2]; done) | rw [if_pos hc2, View.read_writes_full, View.readAt_full]
    isplitl [H7]
    · iexists _; isplitr; swap; (· iexact H7); ipureintro
      first | (rw [if_neg hc2]; done) | rw [if_pos hc2, View.read_writes_full, View.readAt_full]
    iexists _; isplitr; swap; (· iexact H8); ipureintro
    (first
        | (rw [startAcc, if_pos hc1]
           exact rowPieces_read i M0 M1 M2 M3 M8.view f0 f1 f2 f3 _ _ _ (View.read_writes_full _ _ _ _ _))
        | (rw [startAcc, if_neg hc1]
           exact rowPieces'_read i M0 M1 M2 M3 M8.view f0 f1 f2 f3 f8))

end Cert.Proof.K
end
-- ==== Proof.Phase1Region.lean ====
module

public import proofs.«01_k».proof.Proof.Phase1Body
public import proofs.«01_k».proof.Proof.Gen.KernelIdeal.Launch
public import Idealize.ShloMosaic.Lib.Pipeline.TableIdle

@[expose] public section

set_option maxRecDepth 16384

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Which points store what -/

/-- The accumulator is zeroed at the first point only. -/
theorem cond1_iff : ∀ t : Fin cfg0.N, cond1 (cfg0.grid.coords t) = 1#1 ↔ t.val = 0 :=
  (by decide +kernel : ∀ t : Fin grid0.N, cond1 (grid0.coords t) = 1#1 ↔ t.val = 0)

/-- The three halves are copied at the first point of each row. -/
theorem cond2_iff : ∀ t : Fin cfg0.N, k0_cond2 (cfg0.grid.coords t) = 1#1 ↔ t.val % 10 = 0 :=
  (by decide +kernel : ∀ t : Fin grid0.N, k0_cond2 (grid0.coords t) = 1#1 ↔ t.val % 10 = 0)

/-- The index is written at the last point only. -/
theorem cond3_iff : ∀ t : Fin cfg0.N, k0_cond3 (cfg0.grid.coords t) = 1#1 ↔ t.val = 19 :=
  (by decide +kernel : ∀ t : Fin grid0.N, k0_cond3 (grid0.coords t) = 1#1 ↔ t.val = 19)

section

variable (V : (c : Dev nD) → (b : Ref sig .tc) → Buf (Elt F) ((c : Thread nD τ).loc b))

/-- The blocks the four input windows stage at a point. -/
def x0 (c : Dev nD) (t : Fin cfg0.N) : S2048x384.Idx → Elt F .f32 := ((cfg0.win 0).blk t).view.read (Elt F) (V c main_v1)
def x1 (c : Dev nD) (t : Fin cfg0.N) : S2048x384.Idx → Elt F .f32 := ((cfg0.win 1).blk t).view.read (Elt F) (V c main_v3)
def x2 (c : Dev nD) (t : Fin cfg0.N) : S2048x384.Idx → Elt F .f32 := ((cfg0.win 2).blk t).view.read (Elt F) (V c main_v5)
def x3 (c : Dev nD) (t : Fin cfg0.N) : S1x3x2048x384.Idx → Elt F .f32 := ((cfg0.win 3).blk t).view.read (Elt F) (V c main_v7)

/-- The accumulator before point `n`, from the zeros the first point writes. -/
def accN (c : Dev nD) : ℕ → S32x1x384.Idx → Elt F .f32
  | 0 => k0_pay4
  | n + 1 => if h : n < cfg0.N then
      stepAcc (cfg0.grid.coords ⟨n, h⟩) (x0 V c ⟨n, h⟩) (x1 V c ⟨n, h⟩) (x2 V c ⟨n, h⟩) (x3 V c ⟨n, h⟩) (accN c n)
    else accN c n

theorem accN_succ (c : Dev nD) (t : Fin cfg0.N) :
    accN V c (t.val + 1) = stepAcc (cfg0.grid.coords t) (x0 V c t) (x1 V c t) (x2 V c t) (x3 V c t) (accN V c t.val) := by
  rw [accN, dif_pos t.isLt]

/-- The first point of the row a point lies in. -/
def base (t : Fin cfg0.N) : Fin cfg0.N := ⟨t.val / 10 * 10, lt_of_le_of_lt (Nat.div_mul_le_self _ _) t.isLt⟩

theorem base_of_mod {t : Fin cfg0.N} (h : t.val % 10 = 0) : base t = t := Fin.ext (by show t.val / 10 * 10 = t.val; omega)

/-- The invariant between points: the accumulator at `accN` from the first point on, beside the scoped buffers the
    pipeline does not stage. -/
def Phi0 (c : Dev nD) (n : ℕ) : sProp 𝕄 :=
  iprop((∃ A, ⌜n ≠ 0 → A = accN V c n⌝ ∗ owns (c : Thread nD τ) (Memref.whole cc0_scratch0) fullShare A)
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The proof data of the first region, entered from valuation `V`. -/
def dat0 (c : Dev nD) : Dat τ (Elt F) Unit ℕ UU ℕ cfg0 c where
  A w := V c (Pipeline.arrRef spec0 w)
  after w t := match w with
    | ⟨0, _⟩ => x0 V c t
    | ⟨1, _⟩ => x1 V c t
    | ⟨2, _⟩ => x2 V c t
    | ⟨3, _⟩ => x3 V c t
    | ⟨4, _⟩ => selIdx (accN V c 20)
    | ⟨5, _⟩ => k0_pay5 (x0 V c (base t))
    | ⟨6, _⟩ => k0_pay6 (x1 V c (base t))
    | ⟨7, _⟩ => k0_pay7 (x2 V c (base t))
  Φ t := Phi0 V c t.val
  q _ := fullShare
  owed _ := 0

theorem after0_4 (c : Dev nD) (t : Fin cfg0.N) : (dat0 V c).after 4 t = selIdx (accN V c 20) := by dsimp only [dat0]
theorem after0_5 (c : Dev nD) (t : Fin cfg0.N) : (dat0 V c).after 5 t = k0_pay5 (x0 V c (base t)) := by dsimp only [dat0]
theorem after0_6 (c : Dev nD) (t : Fin cfg0.N) : (dat0 V c).after 6 t = k0_pay6 (x1 V c (base t)) := by dsimp only [dat0]
theorem after0_7 (c : Dev nD) (t : Fin cfg0.N) : (dat0 V c).after 7 t = k0_pay7 (x2 V c (base t)) := by dsimp only [dat0]

theorem before0_0 (c : Dev nD) (t : Fin cfg0.N) (d) : (dat0 V c).before 0 t d = x0 V c t :=
  (Dat.before_in_eq_fetched (dat0 V c) 0 rfl (fun _ => rfl) (fun _ _ _ => rfl) (fun _ => rfl) t d).trans rfl
theorem before0_1 (c : Dev nD) (t : Fin cfg0.N) (d) : (dat0 V c).before 1 t d = x1 V c t :=
  (Dat.before_in_eq_fetched (dat0 V c) 1 rfl (fun _ => rfl) (fun _ _ _ => rfl) (fun _ => rfl) t d).trans rfl
theorem before0_2 (c : Dev nD) (t : Fin cfg0.N) (d) : (dat0 V c).before 2 t d = x2 V c t :=
  (Dat.before_in_eq_fetched (dat0 V c) 2 rfl (fun _ => rfl) (fun _ _ _ => rfl) (fun _ => rfl) t d).trans rfl
theorem before0_3 (c : Dev nD) (t : Fin cfg0.N) (d) : (dat0 V c).before 3 t d = x3 V c t :=
  (Dat.before_in_eq_fetched (dat0 V c) 3 rfl (fun _ => rfl) (fun _ _ _ => rfl) (fun _ => rfl) t d).trans rfl

/-- Where the buffers of the three halves hold nothing yet: at the first point of each row. -/
theorem fresh_tab5 : (∀ t : Fin cfg0.N, decide ((t.val + 1) % 10 = 0) = ((cfg0.win 5).flush t || (cfg0.idle 5 (cfg0.grid.coords t) && decide (t.val % 10 = 0))))
    ∧ (∀ t : Fin cfg0.N, decide ((t.val + 1) % 10 = 0) = ((cfg0.win 6).flush t || (cfg0.idle 6 (cfg0.grid.coords t) && decide (t.val % 10 = 0))))
    ∧ (∀ t : Fin cfg0.N, decide ((t.val + 1) % 10 = 0) = ((cfg0.win 7).flush t || (cfg0.idle 7 (cfg0.grid.coords t) && decide (t.val % 10 = 0)))) :=
  ⟨(by decide +kernel : ∀ t : Fin grid0.N, decide ((t.val + 1) % 10 = 0) = (win0_5.flush t || (idle0 5 (grid0.coords t) && decide (t.val % 10 = 0)))),
   (by decide +kernel : ∀ t : Fin grid0.N, decide ((t.val + 1) % 10 = 0) = (win0_6.flush t || (idle0 6 (grid0.coords t) && decide (t.val % 10 = 0)))),
   (by decide +kernel : ∀ t : Fin grid0.N, decide ((t.val + 1) % 10 = 0) = (win0_7.flush t || (idle0 7 (grid0.coords t) && decide (t.val % 10 = 0))))⟩

theorem base_carry (t : Fin cfg0.N) (ht : t.val ≠ 0) (h : decide (t.val % 10 = 0) = false) : base t = base ⟨t.val - 1, by omega⟩ :=
  Fin.ext (by have := of_decide_eq_false h; show t.val / 10 * 10 = (t.val - 1) / 10 * 10; omega)

theorem before0_5 (c : Dev nD) (t : Fin cfg0.N) (d) (h : t.val % 10 ≠ 0) : (dat0 V c).before 5 t d = (dat0 V c).after 5 t := by
  have hf : ∀ t : Fin cfg0.N, cfg0.fresh 5 t.val = decide (t.val % 10 = 0) := fun t => Pipeline.Cfg.fresh_tab cfg0 5 (fun n => decide (n % 10 = 0)) rfl fresh_tab5.1 t.val (le_of_lt t.isLt)
  rw [Dat.before_out_traj (dat0 V c) 5 rfl (fun _ _ => rfl) (fun t ht hi hfr => by
    rw [after0_5, after0_5, base_carry t ht ((hf t).symm.trans hfr)]) t.val t rfl d, hf t, decide_eq_false h, if_neg Bool.false_ne_true]
  rw [after0_5, after0_5, base_carry t (fun h0 => h (by rw [h0])) (decide_eq_false h)]
theorem before0_6 (c : Dev nD) (t : Fin cfg0.N) (d) (h : t.val % 10 ≠ 0) : (dat0 V c).before 6 t d = (dat0 V c).after 6 t := by
  have hf : ∀ t : Fin cfg0.N, cfg0.fresh 6 t.val = decide (t.val % 10 = 0) := fun t => Pipeline.Cfg.fresh_tab cfg0 6 (fun n => decide (n % 10 = 0)) rfl fresh_tab5.2.1 t.val (le_of_lt t.isLt)
  rw [Dat.before_out_traj (dat0 V c) 6 rfl (fun _ _ => rfl) (fun t ht hi hfr => by
    rw [after0_6, after0_6, base_carry t ht ((hf t).symm.trans hfr)]) t.val t rfl d, hf t, decide_eq_false h, if_neg Bool.false_ne_true]
  rw [after0_6, after0_6, base_carry t (fun h0 => h (by rw [h0])) (decide_eq_false h)]
theorem before0_7 (c : Dev nD) (t : Fin cfg0.N) (d) (h : t.val % 10 ≠ 0) : (dat0 V c).before 7 t d = (dat0 V c).after 7 t := by
  have hf : ∀ t : Fin cfg0.N, cfg0.fresh 7 t.val = decide (t.val % 10 = 0) := fun t => Pipeline.Cfg.fresh_tab cfg0 7 (fun n => decide (n % 10 = 0)) rfl fresh_tab5.2.2 t.val (le_of_lt t.isLt)
  rw [Dat.before_out_traj (dat0 V c) 7 rfl (fun _ _ => rfl) (fun t ht hi hfr => by
    rw [after0_7, after0_7, base_carry t ht ((hf t).symm.trans hfr)]) t.val t rfl d, hf t, decide_eq_false h, if_neg Bool.false_ne_true]
  rw [after0_7, after0_7, base_carry t (fun h0 => h (by rw [h0])) (decide_eq_false h)]

/-- What an output window is left at: written where the body stores it, as found where it does not. -/
theorem leave_eq {w : Fin cfg0.W} (c : Dev nD) (t : Fin cfg0.N) (X : (cfg0.win w).block.Idx → Elt F (cfg0.win w).elt)
    (hst : cfg0.idle w (cfg0.grid.coords t) = false → X = (dat0 V c).after w t)
    (hid : cfg0.idle w (cfg0.grid.coords t) = true → (∃ d, X = (dat0 V c).before w t d) ∧ ((cfg0.win w).flush t = true → X = (dat0 V c).after w t)) :
    (owns (c : Thread nD τ) ((cfg0.win w).stage (cfg0.slots t w)) fullShare X : sProp 𝕄)
      ⊢ match cfg0.idle w (cfg0.grid.coords t) with
        | true => match (cfg0.win w).flush t with
          | false => iprop(∃ d, owns (c : Thread nD τ) ((cfg0.win w).stage (cfg0.slots t w)) fullShare ((dat0 V c).before w t d))
          | true => owns (c : Thread nD τ) ((cfg0.win w).stage (cfg0.slots t w)) fullShare ((dat0 V c).after w t)
        | false => owns (c : Thread nD τ) ((cfg0.win w).stage (cfg0.slots t w)) fullShare ((dat0 V c).after w t) := by
  cases hi : cfg0.idle w (cfg0.grid.coords t)
  · rw [hst hi]
  · obtain ⟨⟨d, hd⟩, hfl⟩ := hid hi
    cases hf : (cfg0.win w).flush t
    · rw [hd]; iintro H; iexists d; iexact H
    · rw [hfl hf]

theorem idle0_4 (t : Fin cfg0.N) : cfg0.idle 4 (cfg0.grid.coords t) = !(k0_cond3 (cfg0.grid.coords t) == 1#1) := rfl
theorem idle0_5 (t : Fin cfg0.N) : cfg0.idle 5 (cfg0.grid.coords t) = !(k0_cond2 (cfg0.grid.coords t) == 1#1) := rfl
theorem idle0_6 (t : Fin cfg0.N) : cfg0.idle 6 (cfg0.grid.coords t) = !(k0_cond2 (cfg0.grid.coords t) == 1#1) := rfl
theorem idle0_7 (t : Fin cfg0.N) : cfg0.idle 7 (cfg0.grid.coords t) = !(k0_cond2 (cfg0.grid.coords t) == 1#1) := rfl

theorem bne_true {a : BitVec 1} : (!(a == 1#1)) = true ↔ ¬ a = 1#1 := by simp
theorem bne_false {a : BitVec 1} : (!(a == 1#1)) = false ↔ a = 1#1 := by simp

/-- The body at every point, from what the pipeline hands it to what it takes back. -/
theorem body_obligation0 (c : Dev nD) : BodyObligation (dat0 V c) (defs₀ (F := F)) Variants.none () Set.univ := fun t => by
  rw [bigSep_W0, bigSep_W0]
  rw [show (dat0 V c).Φ t.castSucc = Phi0 V c t.val from rfl, show (dat0 V c).Φ t.succ = Phi0 V c (t.val + 1) from rfl,
    show (dat0 V c).owesAt () t.succ = (dat0 V c).owesAt () t.castSucc from rfl]
  show _ ⊢ wp frame (wpE (defs₀ (F := F)) Variants.none c none) Set.univ (bodyAt0 t) _
  unfold Phi0
  iintro ⟨⟨⟨%A, %hA, HA⟩, Hr⟩, Howes, ⟨%d0, H0⟩, ⟨%d1, H1⟩, ⟨%d2, H2⟩, ⟨%d3, H3⟩, ⟨%d4, H4⟩, ⟨%d5, H5⟩, ⟨%d6, H6⟩, ⟨%d7, H7⟩⟩
  rw [before0_0, before0_1, before0_2, before0_3]
  iapply (body1 c (cfg0.grid.coords t) _ _ _ _ _ _ _ _ _ _ _ _ _ _ _ _ _ _ (x0 V c t) (x1 V c t) (x2 V c t) _ _ _ (x3 V c t) _ A Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HA]; · iexact HA
  have hacc : stepAcc (cfg0.grid.coords t) (x0 V c t) (x1 V c t) (x2 V c t) (x3 V c t) (startAcc (cfg0.grid.coords t) A) = accN V c (t.val + 1) := by
    rw [accN_succ]
    congr 1
    unfold startAcc
    by_cases h : t.val = 0
    · rw [if_pos ((cond1_iff t).mpr h), h]; rfl
    · rw [if_neg (fun h' => h ((cond1_iff t).mp h')), hA h]
  rw [hacc]
  iintro ⟨H0, H1, H2, H3, H4, H5, H6, H7, HA⟩
  isplitl [HA Hr]
  · isplitl [HA]
    · iexists _
      isplitr; swap; (· iexact HA)
      ipureintro; exact fun _ => rfl
    · iexact Hr
  isplitl [Howes]; · iexact Howes
  isplitl [H0]; · iexact H0
  isplitl [H1]; · iexact H1
  isplitl [H2]; · iexact H2
  isplitl [H3]; · iexact H3
  isplitl [H4]
  · iapply (leave_eq V (w := 4) c t (if k0_cond3 (cfg0.grid.coords t) = 1#1 then selIdx (accN V c (t.val + 1)) else (dat0 V c).before 4 t d4) (fun hi => by
      have h3 := bne_false.mp ((idle0_4 t).symm.trans hi)
      rw [if_pos h3, after0_4, (cond3_iff t).mp h3]) (fun hi => by
      have h3 := bne_true.mp ((idle0_4 t).symm.trans hi)
      rw [if_neg h3]
      refine ⟨⟨d4, rfl⟩, fun hfl => absurd ((cond3_iff t).mpr ?_) h3⟩
      have := (flush0_4 t).mp hfl
      have := t.isLt; have : cfg0.N = 20 := N_0
      omega))
    iexact H4
  isplitl [H5]
  · iapply (leave_eq V (w := 5) c t (if k0_cond2 (cfg0.grid.coords t) = 1#1 then k0_pay5 (x0 V c t) else (dat0 V c).before 5 t d5) (fun hi => by
      have h3 := bne_false.mp ((idle0_5 t).symm.trans hi)
      rw [if_pos h3, after0_5, base_of_mod ((cond2_iff t).mp h3)]) (fun hi => by
      have h3 := bne_true.mp ((idle0_5 t).symm.trans hi)
      rw [if_neg h3]
      exact ⟨⟨d5, rfl⟩, fun hfl => before0_5 V c t d5 (fun h => h3 ((cond2_iff t).mpr h))⟩))
    iexact H5
  isplitl [H6]
  · iapply (leave_eq V (w := 6) c t (if k0_cond2 (cfg0.grid.coords t) = 1#1 then k0_pay6 (x1 V c t) else (dat0 V c).before 6 t d6) (fun hi => by
      have h3 := bne_false.mp ((idle0_6 t).symm.trans hi)
      rw [if_pos h3, after0_6, base_of_mod ((cond2_iff t).mp h3)]) (fun hi => by
      have h3 := bne_true.mp ((idle0_6 t).symm.trans hi)
      rw [if_neg h3]
      exact ⟨⟨d6, rfl⟩, fun hfl => before0_6 V c t d6 (fun h => h3 ((cond2_iff t).mpr h))⟩))
    iexact H6
  · iapply (leave_eq V (w := 7) c t (if k0_cond2 (cfg0.grid.coords t) = 1#1 then k0_pay7 (x2 V c t) else (dat0 V c).before 7 t d7) (fun hi => by
      have h3 := bne_false.mp ((idle0_7 t).symm.trans hi)
      rw [if_pos h3, after0_7, base_of_mod ((cond2_iff t).mp h3)]) (fun hi => by
      have h3 := bne_true.mp ((idle0_7 t).symm.trans hi)
      rw [if_neg h3]
      exact ⟨⟨d7, rfl⟩, fun hfl => before0_7 V c t d7 (fun h => h3 ((cond2_iff t).mpr h))⟩))
    iexact H7

end

end Cert.Proof.K
end
-- ==== Proof.Phase2Body.lean ====
module

public import proofs.«01_k».proof.Proof.Phase1Body

@[expose] public section

set_option maxRecDepth 16384

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 1000000 in
/-- One run of the second kernel's body: the staged block `y` is copied to the last output, and to the half its
    channel names; the table and the operands in HBM are not touched. -/
theorem body2 (c : Dev nD) (i : grid1.Coords)
    (T : Memref sig .tc .smem S1 .i32) (hT : T.IsWhole)
    (M0 : Memref sig .tc .vmem S1x1x1024x384 .f32) (h0 : M0.IsWhole)
    (P1 : Memref sig .tc .hbm S4x1024x768 .f32) (hP1 : P1.IsWhole) (P2 : Memref sig .tc .hbm S4x1024x768 .f32) (hP2 : P2.IsWhole)
    (P3 : Memref sig .tc .hbm S4x1024x768 .f32) (hP3 : P3.IsWhole)
    (M1 : Memref sig .tc .vmem S1x1024x384 .f32) (h1 : M1.IsWhole) (M2 : Memref sig .tc .vmem S1x1024x384 .f32) (h2 : M2.IsWhole)
    (M3 : Memref sig .tc .vmem S1x1024x384 .f32) (h3 : M3.IsWhole) (M4 : Memref sig .tc .vmem S1x1x1024x384 .f32) (h4 : M4.IsWhole)
    (y y4 : S1x1x1024x384.Idx → Elt F .f32) (y1 y2 y3 : S1x1024x384.Idx → Elt F .f32) (E : Set ℕ) (Q : PUnit → sProp 𝕄) :
    iprop(own c M0 y ∗ own c M1 y1 ∗ own c M2 y2 ∗ own c M3 y3 ∗ own c M4 y4
        ∗ (iprop(own c M0 y
            ∗ own c M1 (if k1_cond1 i = 1#1 then k1_pay2 y else y1)
            ∗ own c M2 (if k1_cond2 i = 1#1 then k1_pay3 y else y2)
            ∗ own c M3 (if k1_cond3 i = 1#1 then k1_pay4 y else y3)
            ∗ own c M4 (k1_pay5 y)) -∗ Q ⟨⟩))
      ⊢ wp frame (wpE (defs₀ (F := F)) Variants.none c none) E (cc1__phase2_body i T hT M0 h0 P1 hP1 P2 hP2 P3 hP3 M1 h1 M2 h2 M3 h3 M4 h4) Q := by
  unfold own owns
  rw [h0.set_eq_univ, h1.set_eq_univ, h2.set_eq_univ, h3.set_eq_univ, h4.set_eq_univ]
  rw [cc1__phase2_body_eq_skeleton]
  unfold cc1__phase2_body_skel
  by_cases hc1 : k1_cond1 i = 1#1 <;> by_cases hc2 : k1_cond2 i = 1#1 <;> by_cases hc3 : k1_cond3 i = 1#1
  all_goals
    iintro ⟨⟨%f0, %e0, H0⟩, ⟨%f1, %e1, H1⟩, ⟨%f2, %e2, H2⟩, ⟨%f3, %e3, H3⟩, ⟨%f4, %e4, H4⟩, Hk⟩
    subst e0 e1 e2 e3 e4
    sl_exec
    sl_step
    sl_unfold_run_names
    iapply Hk
    isplitl [H0]; · iexists _; isplitr; swap; (· iexact H0); ipureintro; rfl
    isplitl [H1]
    · iexists _; isplitr; swap; (· iexact H1); ipureintro
      first | (rw [if_neg hc1]; done) | rw [if_pos hc1, View.read_writes_full, View.readAt_full]
    isplitl [H2]
    · iexists _; isplitr; swap; (· iexact H2); ipureintro
      first | (rw [if_neg hc2]; done) | rw [if_pos hc2, View.read_writes_full, View.readAt_full]
    isplitl [H3]
    · iexists _; isplitr; swap; (· iexact H3); ipureintro
      first | (rw [if_neg hc3]; done) | rw [if_pos hc3, View.read_writes_full, View.readAt_full]
    iexists _; isplitr; swap; (· iexact H4); ipureintro
    rw [View.read_writes_full, View.readAt_full]

end Cert.Proof.K
end
-- ==== Proof.Phase2Region.lean ====
module

public import proofs.«01_k».proof.Proof.Phase1Region
public import proofs.«01_k».proof.Proof.Phase2Body

@[expose] public section

set_option maxRecDepth 16384

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### Which points store what, and where the blocks are written back -/

theorem cond21_iff : ∀ t : Fin grid1.N, k1_cond1 (grid1.coords t) = 1#1 ↔ t.val % 3 = 0 := by decide +kernel
theorem cond22_iff : ∀ t : Fin grid1.N, k1_cond2 (grid1.coords t) = 1#1 ↔ t.val % 3 = 1 := by decide +kernel
theorem cond23_iff : ∀ t : Fin grid1.N, k1_cond3 (grid1.coords t) = 1#1 ↔ t.val % 3 = 2 := by decide +kernel

/-- The three halves are written back at the last channel of each row of points, -/
theorem flush_tab1 : ∀ t : Fin grid1.N, spec1_1.flushAt cc1_transform_4 t = decide (t.val % 3 = 2) := by decide +kernel
theorem flush_tab2 : ∀ t : Fin grid1.N, spec1_2.flushAt cc1_transform_5 t = decide (t.val % 3 = 2) := by decide +kernel
theorem flush_tab3 : ∀ t : Fin grid1.N, spec1_3.flushAt cc1_transform_6 t = decide (t.val % 3 = 2) := by decide +kernel
/-- and the gathered block at every point. -/
theorem flush_tab4 : ∀ t : Fin grid1.N, spec1_4.flushAt cc1_transform_7 t = true := by decide +kernel

section

variable (a : (pcfg1 (F := F)).Adm)

theorem flush1_1 (t : Fin (cfg1 a).N) : ((cfg1 a).win 1).flush t = decide (t.val % 3 = 2) := flush_tab1 t
theorem flush1_2 (t : Fin (cfg1 a).N) : ((cfg1 a).win 2).flush t = decide (t.val % 3 = 2) := flush_tab2 t
theorem flush1_3 (t : Fin (cfg1 a).N) : ((cfg1 a).win 3).flush t = decide (t.val % 3 = 2) := flush_tab3 t
theorem flush1_4 (t : Fin (cfg1 a).N) : ((cfg1 a).win 4).flush t = true := flush_tab4 t

theorem idle1_1 (t : Fin (cfg1 a).N) : (cfg1 a).idle 1 ((cfg1 a).grid.coords t) = !(k1_cond1 (grid1.coords t) == 1#1) := rfl
theorem idle1_2 (t : Fin (cfg1 a).N) : (cfg1 a).idle 2 ((cfg1 a).grid.coords t) = !(k1_cond2 (grid1.coords t) == 1#1) := rfl
theorem idle1_3 (t : Fin (cfg1 a).N) : (cfg1 a).idle 3 ((cfg1 a).grid.coords t) = !(k1_cond3 (grid1.coords t) == 1#1) := rfl

/-- Where the halves' buffers hold nothing yet. -/
theorem fresh1_1 (t : Fin (cfg1 a).N) : (cfg1 a).fresh 1 t.val = decide (t.val % 3 = 0) :=
  Pipeline.Cfg.fresh_tab (cfg1 a) 1 (fun n => decide (n % 3 = 0)) rfl (fun t => by
    rw [flush1_1, idle1_1]
    exact (by decide +kernel : ∀ t : Fin grid1.N, decide ((t.val + 1) % 3 = 0)
      = (decide (t.val % 3 = 2) || (!(k1_cond1 (grid1.coords t) == 1#1) && decide (t.val % 3 = 0)))) t) t.val (le_of_lt t.isLt)
theorem fresh1_2 (t : Fin (cfg1 a).N) : (cfg1 a).fresh 2 t.val = decide (t.val % 3 ≠ 2) :=
  Pipeline.Cfg.fresh_tab (cfg1 a) 2 (fun n => decide (n % 3 ≠ 2)) rfl (fun t => by
    rw [flush1_2, idle1_2]
    exact (by decide +kernel : ∀ t : Fin grid1.N, decide ((t.val + 1) % 3 ≠ 2)
      = (decide (t.val % 3 = 2) || (!(k1_cond2 (grid1.coords t) == 1#1) && decide (t.val % 3 ≠ 2)))) t) t.val (le_of_lt t.isLt)

variable (V : (c : Dev nD) → (b : Ref sig .tc) → Buf (Elt F) ((c : Thread nD τ).loc b))

/-- The block the second region stages at a point: a channel and a quarter of the selected image. -/
def yb (c : Dev nD) (t : Fin (cfg1 a).N) : S1x1x1024x384.Idx → Elt F .f32 := (((cfg1 a).win 0).blk t).view.read (Elt F) (V c main_v7)

/-- The point of channel `k` in the row of points `t` lies in. -/
def chan (k : Fin 3) (t : Fin (cfg1 a).N) : Fin (cfg1 a).N := ⟨t.val / 3 * 3 + k.val, by
  have h : (cfg1 a).N = 12 := N_1
  have := t.isLt; have := k.isLt; omega⟩

theorem chan_of_mod (k : Fin 3) {t : Fin (cfg1 a).N} (h : t.val % 3 = k.val) : chan a k t = t :=
  Fin.ext (by show t.val / 3 * 3 + k.val = t.val; omega)

/-- The proof data of the second region, entered from valuation `V` with the table at `a`. -/
def dat1 (c : Dev nD) : Dat τ (Elt F) Unit ℕ UU ℕ (cfg1 a) c where
  A w := V c (Pipeline.arrRef spec1 w)
  after w t := match w with
    | ⟨0, _⟩ => yb a V c t
    | ⟨1, _⟩ => k1_pay2 (yb a V c (chan a 0 t))
    | ⟨2, _⟩ => k1_pay3 (yb a V c (chan a 1 t))
    | ⟨3, _⟩ => k1_pay4 (yb a V c (chan a 2 t))
    | ⟨4, _⟩ => k1_pay5 (yb a V c t)
  Φ _ := iprop(iprop(Pipeline.scopedRest spec1 c ∗ emp) ∗ Pipeline.prefHeld pre1 c (fun _ => fullShare) a.1)
  q _ := fullShare
  owed _ := 0

theorem after1_1 (c : Dev nD) (t : Fin (cfg1 a).N) : (dat1 a V c).after 1 t = k1_pay2 (yb a V c (chan a 0 t)) := by dsimp only [dat1]; rfl
theorem after1_2 (c : Dev nD) (t : Fin (cfg1 a).N) : (dat1 a V c).after 2 t = k1_pay3 (yb a V c (chan a 1 t)) := by dsimp only [dat1]; rfl
theorem after1_3 (c : Dev nD) (t : Fin (cfg1 a).N) : (dat1 a V c).after 3 t = k1_pay4 (yb a V c (chan a 2 t)) := by dsimp only [dat1]; rfl
theorem after1_4 (c : Dev nD) (t : Fin (cfg1 a).N) : (dat1 a V c).after 4 t = k1_pay5 (yb a V c t) := by dsimp only [dat1]; rfl

theorem before1_0 (c : Dev nD) (t : Fin (cfg1 a).N) (d) : (dat1 a V c).before 0 t d = yb a V c t :=
  (Dat.before_in_eq_fetched (dat1 a V c) 0 rfl (fun _ => rfl) (fun _ _ _ => rfl) (fun _ => rfl) t d).trans rfl

theorem chan_carry (k : Fin 3) (t : Fin (cfg1 a).N) (h : t.val % 3 ≠ 0) : chan a k t = chan a k ⟨t.val - 1, by omega⟩ :=
  Fin.ext (by show t.val / 3 * 3 + k.val = (t.val - 1) / 3 * 3 + k.val; omega)

theorem before1_1 (c : Dev nD) (t : Fin (cfg1 a).N) (d) (h : t.val % 3 ≠ 0) : (dat1 a V c).before 1 t d = (dat1 a V c).after 1 t := by
  rw [Dat.before_out_traj (dat1 a V c) 1 rfl (fun _ _ => rfl) (fun t ht hi hfr => by
    rw [fresh1_1] at hfr
    rw [after1_1, after1_1, chan_carry a 0 t (of_decide_eq_false hfr)]) t.val t rfl d, fresh1_1, decide_eq_false h, if_neg Bool.false_ne_true]
  rw [after1_1, after1_1, chan_carry a 0 t h]
theorem before1_2 (c : Dev nD) (t : Fin (cfg1 a).N) (d) (h : t.val % 3 = 2) : (dat1 a V c).before 2 t d = (dat1 a V c).after 2 t := by
  rw [Dat.before_out_traj (dat1 a V c) 2 rfl (fun _ _ => rfl) (fun t ht hi hfr => by
    rw [fresh1_2] at hfr
    have hfr := of_decide_eq_false hfr
    rw [after1_2, after1_2, chan_carry a 1 t (by omega)]) t.val t rfl d, fresh1_2, decide_eq_false (not_not.mpr h), if_neg Bool.false_ne_true]
  rw [after1_2, after1_2, chan_carry a 1 t (by omega)]

/-- What an output window is left at: written where the body stores it, as found where it does not. -/
theorem leave1_eq {w : Fin (cfg1 a).W} (c : Dev nD) (t : Fin (cfg1 a).N) (X : ((cfg1 a).win w).block.Idx → Elt F ((cfg1 a).win w).elt)
    (hst : (cfg1 a).idle w ((cfg1 a).grid.coords t) = false → X = (dat1 a V c).after w t)
    (hid : (cfg1 a).idle w ((cfg1 a).grid.coords t) = true → (∃ d, X = (dat1 a V c).before w t d) ∧ (((cfg1 a).win w).flush t = true → X = (dat1 a V c).after w t)) :
    (owns (c : Thread nD τ) (((cfg1 a).win w).stage ((cfg1 a).slots t w)) fullShare X : sProp 𝕄)
      ⊢ match (cfg1 a).idle w ((cfg1 a).grid.coords t) with
        | true => match ((cfg1 a).win w).flush t with
          | false => iprop(∃ d, owns (c : Thread nD τ) (((cfg1 a).win w).stage ((cfg1 a).slots t w)) fullShare ((dat1 a V c).before w t d))
          | true => owns (c : Thread nD τ) (((cfg1 a).win w).stage ((cfg1 a).slots t w)) fullShare ((dat1 a V c).after w t)
        | false => owns (c : Thread nD τ) (((cfg1 a).win w).stage ((cfg1 a).slots t w)) fullShare ((dat1 a V c).after w t) := by
  cases hi : (cfg1 a).idle w ((cfg1 a).grid.coords t)
  · rw [hst hi]
  · obtain ⟨⟨d, hd⟩, hfl⟩ := hid hi
    cases hf : ((cfg1 a).win w).flush t
    · rw [hd]; iintro H; iexists d; iexact H
    · rw [hfl hf]

/-- The kernel's body at a point, on what the pipeline calls it with. -/
abbrev bodyAt1 (t : Fin (cfg1 a).N) : Prog (TpuEff nD τ sig (Elt F) Λ₀ .tc) PUnit :=
  cc1__phase2_body (grid1.coords t) (Memref.whole main_v9) (Memref.isWhole_whole _)
    (spec1_0.stage ((cfg1 a).slots t (0 : Fin 5))) (hstage1_0 (((cfg1 a).slots t (0 : Fin 5)).cast nbuf1_0))
    (Memref.whole main_v10) (Memref.isWhole_whole _) (Memref.whole main_v11) (Memref.isWhole_whole _) (Memref.whole main_v12) (Memref.isWhole_whole _)
    (spec1_1.stage ((cfg1 a).slots t (1 : Fin 5))) (hstage1_1 (((cfg1 a).slots t (1 : Fin 5)).cast nbuf1_1))
    (spec1_2.stage ((cfg1 a).slots t (2 : Fin 5))) (hstage1_2 (((cfg1 a).slots t (2 : Fin 5)).cast nbuf1_2))
    (spec1_3.stage ((cfg1 a).slots t (3 : Fin 5))) (hstage1_3 (((cfg1 a).slots t (3 : Fin 5)).cast nbuf1_3))
    (spec1_4.stage ((cfg1 a).slots t (4 : Fin 5))) (hstage1_4 (((cfg1 a).slots t (4 : Fin 5)).cast nbuf1_4))

/-- The body at every point, from what the pipeline hands it to what it takes back. -/
theorem body_obligation1 (c : Dev nD) : BodyObligation (dat1 a V c) (defs₀ (F := F)) Variants.none () Set.univ := fun t => by
  rw [bigSep_W1, bigSep_W1]
  rw [show (dat1 a V c).Φ t.succ = (dat1 a V c).Φ t.castSucc from rfl,
    show (dat1 a V c).owesAt () t.succ = (dat1 a V c).owesAt () t.castSucc from rfl]
  show _ ⊢ wp frame (wpE (defs₀ (F := F)) Variants.none c none) Set.univ (bodyAt1 a t) _
  iintro ⟨HΦ, Howes, ⟨%d0, H0⟩, ⟨%d1, H1⟩, ⟨%d2, H2⟩, ⟨%d3, H3⟩, ⟨%d4, H4⟩⟩
  have hb : ∀ d, (dat1 a V c).before (0 : Fin 5) t d = yb a V c t := before1_0 a V c t
  rw [hb]
  iapply (body2 c (grid1.coords t) _ _ _ _ _ _ _ _ _ _ _ _ _ _ _ _ _ _ (yb a V c t) _ _ _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]
  · iapply (leave1_eq a V (w := (1 : Fin 5)) c t (if k1_cond1 (grid1.coords t) = 1#1 then k1_pay2 (yb a V c t) else (dat1 a V c).before (1 : Fin 5) t d1) (fun hi => by
      have h3 := bne_false.mp ((idle1_1 a t).symm.trans hi)
      exact (if_pos h3).trans (by rw [after1_1, chan_of_mod a 0 ((cond21_iff t).mp h3)])) (fun hi => by
      have h3 := bne_true.mp ((idle1_1 a t).symm.trans hi)
      exact ⟨⟨d1, if_neg h3⟩, fun _ => (if_neg h3).trans (before1_1 a V c t d1 (fun h => h3 ((cond21_iff t).mpr h)))⟩))
    iexact H1
  isplitl [H2]
  · iapply (leave1_eq a V (w := (2 : Fin 5)) c t (if k1_cond2 (grid1.coords t) = 1#1 then k1_pay3 (yb a V c t) else (dat1 a V c).before (2 : Fin 5) t d2) (fun hi => by
      have h3 := bne_false.mp ((idle1_2 a t).symm.trans hi)
      exact (if_pos h3).trans (by rw [after1_2, chan_of_mod a 1 ((cond22_iff t).mp h3)])) (fun hi => by
      have h3 := bne_true.mp ((idle1_2 a t).symm.trans hi)
      exact ⟨⟨d2, if_neg h3⟩, fun hfl => (if_neg h3).trans (before1_2 a V c t d2 (of_decide_eq_true ((flush1_2 a t).symm.trans hfl)))⟩))
    iexact H2
  isplitl [H3]
  · iapply (leave1_eq a V (w := (3 : Fin 5)) c t (if k1_cond3 (grid1.coords t) = 1#1 then k1_pay4 (yb a V c t) else (dat1 a V c).before (3 : Fin 5) t d3) (fun hi => by
      have h3 := bne_false.mp ((idle1_3 a t).symm.trans hi)
      exact (if_pos h3).trans (by rw [after1_3, chan_of_mod a 2 ((cond23_iff t).mp h3)])) (fun hi => by
      have h3 := bne_true.mp ((idle1_3 a t).symm.trans hi)
      exact ⟨⟨d3, if_neg h3⟩, fun hfl => (if_neg h3).trans (absurd ((cond23_iff t).mpr (of_decide_eq_true ((flush1_3 a t).symm.trans hfl))) h3)⟩))
    iexact H3
  iexact H4

end

end Cert.Proof.K
end
-- ==== Proof.Run.lean ====
module

public import Idealize.ShloMosaic.Lib.Pipeline.RegionArraysT
public import proofs.«01_k».proof.Proof.Gen.KernelIdeal.Regions
public import proofs.«01_k».proof.Proof.Phase2Region

@[expose] public section

set_option maxRecDepth 16384

noncomputable section

namespace Cert.Proof.K

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pipeline library's algebra is the left component of the certificate's. -/
abbrev EP : Emb (UR sig nD τ) 𝕄 := embL

/-- No core owes another anything: every cell of a TensorCore is at level zero. -/
abbrev lvs : GSem nD τ sig → Finset Unit := fun g => if g.1.2 = .tc then Finset.univ else ∅
abbrev lv0 : GSem nD τ sig → Unit → ℕ := fun _ _ => 0

section

variable (m : (ℓ : Loc nD τ sig) → Buf (Elt F) ℓ)

/-! ### The buffers' contents between the items of the program -/

/-- At launch, -/
abbrev U0 (c : Dev nD) : Valuation τ sig (Elt F) := fun b => m (c, b)
/-- after the transposes and reshapes that enter the first region, -/
def U1 (c : Dev nD) : Valuation τ sig (Elt F) := StableHlo.after hostOps0 (U0 m c)
abbrev B1 (c : Dev nD) (b : Ref sig .tc) : Buf (Elt F) ((c : Thread nD τ).loc b) := U1 m c (Proc.devRef .tc b)
/-- after the first region, -/
def U2 (c : Dev nD) : Valuation τ sig (Elt F) :=
  Function.update (Function.update (Function.update (Function.update (U1 m c)
    main_v8_0 ((dat0 (B1 m) c).arrAt 4 cfg0.N)) main_v8_1 ((dat0 (B1 m) c).arrAt 5 cfg0.N))
    main_v8_2 ((dat0 (B1 m) c).arrAt 6 cfg0.N)) main_v8_3 ((dat0 (B1 m) c).arrAt 7 cfg0.N)
/-- after the copies that enter the second region. -/
def U3 (c : Dev nD) : Valuation τ sig (Elt F) := StableHlo.after hostOps1 (U2 m c)
abbrev B3 (c : Dev nD) (b : Ref sig .tc) : Buf (Elt F) ((c : Thread nD τ).loc b) := U3 m c (Proc.devRef .tc b)

/-- The table the second region is given: the index the first one wrote. -/
def tab : pre1.Contents (Elt F) := fun k => U3 m 0 (Proc.devRef .tc (pre1.ref k))

variable (hok : ok1 (tab m))

/-- The tables of the two regions. -/
def adm : (p : Fin 2) → (pcfgs (F := F) p).Adm
  | ⟨0, _⟩ => cfg0.toPCfg_adm
  | ⟨1, _⟩ => ⟨tab m, hok⟩

/-- The table as the second region's. -/
abbrev adm1 : (pcfg1 (F := F)).Adm := ⟨tab m, hok⟩

/-- The proof data of the two regions. -/
def pdats : (p : Fin 2) → (c : Dev nD) → Dat τ (Elt F) Unit ℕ UU ℕ (Pipeline.pin (pcfgs (F := F)) (adm m hok) p) c
  | ⟨0, _⟩ => fun c => dat0 (B1 m) c
  | ⟨1, _⟩ => fun c => dat1 (adm1 m hok) (B3 m) c

/-- After the second region, -/
def U4 (c : Dev nD) : Valuation τ sig (Elt F) :=
  Function.update (Function.update (Function.update (Function.update (U3 m c)
    main_v13_0 ((dat1 (adm1 m hok) (B3 m) c).arrAt (1 : Fin 5) (cfg1 (adm1 m hok)).N)) main_v13_1 ((dat1 (adm1 m hok) (B3 m) c).arrAt (2 : Fin 5) (cfg1 (adm1 m hok)).N))
    main_v13_2 ((dat1 (adm1 m hok) (B3 m) c).arrAt (3 : Fin 5) (cfg1 (adm1 m hok)).N)) main_v13_3 ((dat1 (adm1 m hok) (B3 m) c).arrAt (4 : Fin 5) (cfg1 (adm1 m hok)).N)
/-- and at the end. -/
def U5 (c : Dev nD) : Valuation τ sig (Elt F) := StableHlo.after hostOps2 (U4 m hok c)

/-! ### What each item leaves unchanged -/

theorem U1_of (c : Dev nD) (r : Ref sig .tc) (h : r ∉ hostOps0_W) : U1 m c r = U0 m c r :=
  StableHlo.after_of_writes_sub hostOps0 _ hostOps0_writes h
theorem U2_of (c : Dev nD) (b : DevRef τ sig) (h : b ≠ main_v8_0 ∧ b ≠ main_v8_1 ∧ b ≠ main_v8_2 ∧ b ≠ main_v8_3) : U2 m c b = U1 m c b := by
  unfold U2
  rw [Function.update_of_ne h.2.2.2, Function.update_of_ne h.2.2.1, Function.update_of_ne h.2.1, Function.update_of_ne h.1]
theorem U3_of (c : Dev nD) (r : Ref sig .tc) (h : r ∉ hostOps1_W) : U3 m c r = U2 m c r :=
  StableHlo.after_of_writes_sub hostOps1 _ hostOps1_writes h
theorem U4_of (c : Dev nD) (b : DevRef τ sig) (h : b ≠ main_v13_0 ∧ b ≠ main_v13_1 ∧ b ≠ main_v13_2 ∧ b ≠ main_v13_3) : U4 m hok c b = U3 m c b := by
  unfold U4
  rw [Function.update_of_ne h.2.2.2, Function.update_of_ne h.2.2.1, Function.update_of_ne h.2.1, Function.update_of_ne h.1]
theorem U5_of (c : Dev nD) (r : Ref sig .tc) (h : r ∉ hostOps2_W) : U5 m hok c r = U4 m hok c r :=
  StableHlo.after_of_writes_sub hostOps2 _ hostOps2_writes h

/-- What the regions leave in their outputs. -/
theorem U2_v8_0 (c : Dev nD) : U2 m c main_v8_0 = (dat0 (B1 m) c).arrAt 4 cfg0.N := by
  unfold U2; rw [Function.update_of_ne (by decide), Function.update_of_ne (by decide), Function.update_of_ne (by decide), Function.update_self]
theorem U2_v8_1 (c : Dev nD) : U2 m c main_v8_1 = (dat0 (B1 m) c).arrAt 5 cfg0.N := by
  unfold U2; rw [Function.update_of_ne (by decide), Function.update_of_ne (by decide), Function.update_self]
theorem U2_v8_2 (c : Dev nD) : U2 m c main_v8_2 = (dat0 (B1 m) c).arrAt 6 cfg0.N := by
  unfold U2; rw [Function.update_of_ne (by decide), Function.update_self]
theorem U2_v8_3 (c : Dev nD) : U2 m c main_v8_3 = (dat0 (B1 m) c).arrAt 7 cfg0.N := by
  unfold U2; rw [Function.update_self]
theorem U4_v13_0 (c : Dev nD) : U4 m hok c main_v13_0 = (dat1 (adm1 m hok) (B3 m) c).arrAt (1 : Fin 5) (cfg1 (adm1 m hok)).N := by
  unfold U4; rw [Function.update_of_ne (by decide), Function.update_of_ne (by decide), Function.update_of_ne (by decide), Function.update_self]
theorem U4_v13_1 (c : Dev nD) : U4 m hok c main_v13_1 = (dat1 (adm1 m hok) (B3 m) c).arrAt (2 : Fin 5) (cfg1 (adm1 m hok)).N := by
  unfold U4; rw [Function.update_of_ne (by decide), Function.update_of_ne (by decide), Function.update_self]
theorem U4_v13_2 (c : Dev nD) : U4 m hok c main_v13_2 = (dat1 (adm1 m hok) (B3 m) c).arrAt (3 : Fin 5) (cfg1 (adm1 m hok)).N := by
  unfold U4; rw [Function.update_of_ne (by decide), Function.update_self]
theorem U4_v13_3 (c : Dev nD) : U4 m hok c main_v13_3 = (dat1 (adm1 m hok) (B3 m) c).arrAt (4 : Fin 5) (cfg1 (adm1 m hok)).N := by
  unfold U4; rw [Function.update_self]

/-- The arguments end as launched. -/
theorem U5_arg (c : Dev nD) (r : Ref sig .tc) (h : r ∉ hostOps0_W ∧ r ∉ hostOps1_W ∧ r ∉ hostOps2_W)
    (h2 : Proc.devRef (τ := τ) .tc r ≠ main_v8_0 ∧ Proc.devRef (τ := τ) .tc r ≠ main_v8_1 ∧ Proc.devRef (τ := τ) .tc r ≠ main_v8_2 ∧ Proc.devRef (τ := τ) .tc r ≠ main_v8_3)
    (h4 : Proc.devRef (τ := τ) .tc r ≠ main_v13_0 ∧ Proc.devRef (τ := τ) .tc r ≠ main_v13_1 ∧ Proc.devRef (τ := τ) .tc r ≠ main_v13_2 ∧ Proc.devRef (τ := τ) .tc r ≠ main_v13_3) :
    U5 m hok c r = m ((c : Thread nD τ).loc r) :=
  (U5_of m hok c r h.2.2).trans <| (U4_of m hok c _ h4).trans <| (U3_of m c r h.2.1).trans <| (U2_of m c _ h2).trans <| (U1_of m c r h.1).trans rfl

/-! ### The program as segments -/

/-- What rides beside the buffers: the core owes nothing. -/
abbrev Eo (c : Dev nD) : sProp 𝕄 := iprop(∃ W, owes (c : Thread nD τ) (0 : CellTallies nD τ sig Unit) W)

/-- The buffers a region does not name, at the region's entry contents. -/
abbrev R0 (c : Dev nD) : sProp 𝕄 := StableHlo.held (c.tc : Thread nD τ) (Pipeline.ucRefs τ sig \ Pipeline.arrRefs spec0) (U1 m c)
abbrev R1 (c : Dev nD) : sProp 𝕄 :=
  StableHlo.held (c.tc : Thread nD τ) ((Pipeline.ucRefs τ sig \ Pipeline.arrRefs spec1) \ Pipeline.tblRefs pre1) (U3 m c)

theorem cut (p : Fin 2) : Pipeline.LevelCut (pcfgs (F := F)) (adm m hok) () lvs lv0 p (fun _ => 0) (fun _ => 0) where
  hι c w s := by show () ∈ (if (Proc.tc : Proc τ) = .tc then Finset.univ else ∅); rw [if_pos rfl]; exact Finset.mem_univ _
  hιb c w s := le_refl _
  hD c g i h := absurd h (lt_irrefl _)

set_option backward.isDefEq.respectTransparency.types false in
/-- The first region's record: entered from `U1`, left at `U2`. -/
def reg0 : Pipeline.RegionSeg (pcfgs (F := F)) (adm m hok) (pdats m hok) () defs₀ Variants.none lvs lv0 0 :=
  Pipeline.RegionSeg.ofHeld (pcfgs (F := F)) (adm m hok) (pdats m hok) () defs₀ Variants.none lvs lv0 0 (fun _ => 0)
    (fun _ => iprop(emp)) (fun _ => iprop(emp)) launch0 rfl
    (fun c => (body_obligation0 (B1 m) c).loose) (fun _ _ => rfl) (fun _ => rfl)
    (fun c w => (dat0 (B1 m) c).share_full (fun _ => rfl) w)
    (fun c => by
      show iprop(Pipeline.scopedRest spec0 c ∗ emp) ⊢ Phi0 (B1 m) c 0
      rw [scopedRest0_eq]; unfold Phi0
      iintro ⟨⟨⟨%f, Hs⟩, Hr⟩, -⟩
      isplitl [Hs]
      · iexists f
        isplitr; · ipureintro; exact fun h => absurd rfl h
        rw [owns_whole_eq]; iexists f
        isplitr; · ipureintro; rfl
        iexact Hs
      iexact Hr)
    (fun c => by
      show Phi0 (B1 m) c cfg0.N ⊢ iprop(Pipeline.scopedRest spec0 c ∗ emp)
      rw [scopedRest0_eq]; unfold Phi0
      simp only [owns_whole_eq]
      iintro ⟨⟨%A, -, %f, -, HA⟩, Hr⟩
      isplitl [HA Hr]
      · isplitl [HA]; · iexists f; iexact HA
        iexact Hr
      iempintro)
    (fun _ => 0) (cut m hok 0) (R0 m) (U1 m) (U2 m)
    (fun c w => by dsimp only [pdats, dat0]; rfl)
    (fun c w => match w with
      | ⟨0, _⟩ => ((dat0 (B1 m) c).arrAt_in 0 rfl _).trans (U2_of m c main_v1 (by decide)).symm
      | ⟨1, _⟩ => ((dat0 (B1 m) c).arrAt_in 1 rfl _).trans (U2_of m c main_v3 (by decide)).symm
      | ⟨2, _⟩ => ((dat0 (B1 m) c).arrAt_in 2 rfl _).trans (U2_of m c main_v5 (by decide)).symm
      | ⟨3, _⟩ => ((dat0 (B1 m) c).arrAt_in 3 rfl _).trans (U2_of m c main_v7 (by decide)).symm
      | ⟨4, _⟩ => (U2_v8_0 m c).symm
      | ⟨5, _⟩ => (U2_v8_1 m c).symm
      | ⟨6, _⟩ => (U2_v8_2 m c).symm
      | ⟨7, _⟩ => (U2_v8_3 m c).symm)

set_option backward.isDefEq.respectTransparency.types false in
/-- The second region's record: entered from `U3`, left at `U4`. -/
def reg1 : Pipeline.RegionSeg (pcfgs (F := F)) (adm m hok) (pdats m hok) () defs₀ Variants.none lvs lv0 1 :=
  Pipeline.RegionSeg.ofHeldT (pcfgs (F := F)) (adm m hok) (pdats m hok) () defs₀ Variants.none lvs lv0 1 (fun _ => 0)
    (fun _ => iprop(emp)) (fun _ => iprop(emp)) launch1
    (fun c => (body_obligation1 (adm1 m hok) (B3 m) c).loose) (fun _ _ => rfl) (fun _ => rfl)
    (fun c w => (dat1 (adm1 m hok) (B3 m) c).share_full (fun _ => rfl) w)
    (fun c => .rfl) (fun c => .rfl)
    (fun _ => 0) (cut m hok 1) (R1 m) (U3 m) (U4 m hok)
    (fun c w => by dsimp only [pdats, dat1]; rfl)
    (fun c k => by obtain rfl : c = 0 := Subsingleton.elim _ _; rfl)
    (fun c w => match w with
      | ⟨0, _⟩ => ((dat1 (adm1 m hok) (B3 m) c).arrAt_in (0 : Fin 5) rfl _).trans (U4_of m hok c main_v7 (by decide)).symm
      | ⟨1, _⟩ => (U4_v13_0 m hok c).symm
      | ⟨2, _⟩ => (U4_v13_1 m hok c).symm
      | ⟨3, _⟩ => (U4_v13_2 m hok c).symm
      | ⟨4, _⟩ => (U4_v13_3 m hok c).symm)
    (fun c k => by
      obtain rfl : c = 0 := Subsingleton.elim _ _
      obtain rfl : k = (0 : Fin 1) := Subsingleton.elim (α := Fin 1) _ _
      exact (U4_of m hok 0 main_v9 (by decide)).symm)

/-- The three stretches of host operations. -/
def hseg0 : Pipeline.HostSeg (Ix := Unit) (Name := ℕ) (U := UU) (Lvl := ℕ) (pcfgs (F := F)) defs₀ Variants.none lvs lv0 :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (U0 m) Eo
def hseg1 : Pipeline.HostSeg (Ix := Unit) (Name := ℕ) (U := UU) (Lvl := ℕ) (pcfgs (F := F)) defs₀ Variants.none lvs lv0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) Eo
def hseg2 : Pipeline.HostSeg (Ix := Unit) (Name := ℕ) (U := UU) (Lvl := ℕ) (pcfgs (F := F)) defs₀ Variants.none lvs lv0 :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m hok) Eo

/-- The program as the list of the five. -/
abbrev items : List (Pipeline.Seg (pcfgs (F := F)) (adm m hok) (pdats m hok) () defs₀ Variants.none lvs lv0) :=
  [.host (hseg0 m), .region (reg0 m hok), .host (hseg1 m), .region (reg1 m hok), .host (hseg2 m hok)]

/-! ### What joins one item to the next -/

theorem sub0 : Pipeline.arrRefs (τ := τ) spec0 ⊆ Pipeline.ucRefs τ sig := Pipeline.arrRefs_sub_ucRefs spec0 (by decide)
theorem sub1 : Pipeline.arrRefs (τ := τ) spec1 ⊆ Pipeline.ucRefs τ sig := Pipeline.arrRefs_sub_ucRefs spec1 (by decide)
theorem subT : Pipeline.tblRefs (τ := τ) pre1 ⊆ Pipeline.ucRefs τ sig \ Pipeline.arrRefs spec1 :=
  Pipeline.tblRefs_sub_ucRefs_sdiff spec1 pre1 (by decide) (by decide)

/-- An array of a region's is one of the windows'. -/
theorem mem_arr {W gr : ℕ} (win : Fin W → Pipeline.WinSpec sig gr) (w : Fin W) : Proc.devRef (τ := τ) .tc (Pipeline.arrRef win w) ∈ Pipeline.arrRefs (τ := τ) win :=
  Finset.mem_map.mpr ⟨_, Finset.mem_image.mpr ⟨w, Finset.mem_univ _, rfl⟩, rfl⟩

theorem enter0 (c : Dev nD) : iprop(StableHlo.held (c.tc : Thread nD τ) (Pipeline.ucRefs τ sig) (U1 m c) ∗ Eo (F := F) c) ⊢ (reg0 m hok).pre c := by
  show _ ⊢ iprop(StableHlo.held (c.tc : Thread nD τ) (Pipeline.arrRefs spec0) (U1 m c) ∗ emp ∗ R0 m c ∗ Eo c)
  rw [StableHlo.held_sub_split (c.tc : Thread nD τ) sub0 (U1 m c)]
  iintro ⟨⟨Ha, Hr⟩, HO⟩
  isplitl [Ha]; · iexact Ha
  isplitr; · iempintro
  isplitl [Hr]; · iexact Hr
  iexact HO

theorem leave0 (c : Dev nD) : (reg0 m hok).post c ⊢ iprop(StableHlo.held (c.tc : Thread nD τ) (Pipeline.ucRefs τ sig) (U2 m c) ∗ Eo (F := F) c) := by
  show iprop(StableHlo.held (c.tc : Thread nD τ) (Pipeline.arrRefs spec0) (U2 m c) ∗ emp ∗ R0 m c ∗ Eo c) ⊢ _
  rw [StableHlo.held_sub_split (c.tc : Thread nD τ) sub0 (U2 m c),
    StableHlo.held_congr (c.tc : Thread nD τ) (S := Pipeline.ucRefs τ sig \ Pipeline.arrRefs spec0) (V := U2 m c) (V' := U1 m c) fun b hb =>
      U2_of m c b ⟨fun e => (Finset.mem_sdiff.mp hb).2 (e ▸ mem_arr spec0 4), fun e => (Finset.mem_sdiff.mp hb).2 (e ▸ mem_arr spec0 5),
        fun e => (Finset.mem_sdiff.mp hb).2 (e ▸ mem_arr spec0 6), fun e => (Finset.mem_sdiff.mp hb).2 (e ▸ mem_arr spec0 7)⟩]
  iintro ⟨Ha, -, Hr, HO⟩
  isplitl [Ha Hr]
  · isplitl [Ha]; · iexact Ha
    iexact Hr
  iexact HO

theorem enter1 (c : Dev nD) : iprop(StableHlo.held (c.tc : Thread nD τ) (Pipeline.ucRefs τ sig) (U3 m c) ∗ Eo (F := F) c) ⊢ (reg1 m hok).pre c := by
  show _ ⊢ iprop(StableHlo.held (c.tc : Thread nD τ) (Pipeline.arrRefs spec1) (U3 m c) ∗ StableHlo.held (c.tc : Thread nD τ) (Pipeline.tblRefs pre1) (U3 m c)
    ∗ emp ∗ R1 m c ∗ Eo c)
  rw [StableHlo.held_sub_split (c.tc : Thread nD τ) sub1 (U3 m c), StableHlo.held_sub_split (c.tc : Thread nD τ) subT (U3 m c)]
  iintro ⟨⟨Ha, Ht, Hr⟩, HO⟩
  isplitl [Ha]; · iexact Ha
  isplitl [Ht]; · iexact Ht
  isplitr; · iempintro
  isplitl [Hr]; · iexact Hr
  iexact HO

theorem leave1 (c : Dev nD) : (reg1 m hok).post c ⊢ iprop(StableHlo.held (c.tc : Thread nD τ) (Pipeline.ucRefs τ sig) (U4 m hok c) ∗ Eo (F := F) c) := by
  show iprop(StableHlo.held (c.tc : Thread nD τ) (Pipeline.arrRefs spec1) (U4 m hok c) ∗ StableHlo.held (c.tc : Thread nD τ) (Pipeline.tblRefs pre1) (U4 m hok c)
    ∗ emp ∗ R1 m c ∗ Eo c) ⊢ _
  rw [StableHlo.held_sub_split (c.tc : Thread nD τ) sub1 (U4 m hok c), StableHlo.held_sub_split (c.tc : Thread nD τ) subT (U4 m hok c),
    StableHlo.held_congr (c.tc : Thread nD τ) (S := (Pipeline.ucRefs τ sig \ Pipeline.arrRefs spec1) \ Pipeline.tblRefs pre1) (V := U4 m hok c) (V' := U3 m c) fun b hb =>
      have hb := (Finset.mem_sdiff.mp (Finset.mem_sdiff.mp hb).1).2
      U4_of m hok c b ⟨fun e => hb (e ▸ mem_arr spec1 1), fun e => hb (e ▸ mem_arr spec1 2), fun e => hb (e ▸ mem_arr spec1 3), fun e => hb (e ▸ mem_arr spec1 4)⟩]
  iintro ⟨Ha, Ht, -, Hr, HO⟩
  isplitl [Ha Ht Hr]
  · isplitl [Ha]; · iexact Ha
    isplitl [Ht]; · iexact Ht
    iexact Hr
  iexact HO

/-- What the launch gives the pipelines' cells and transfers. -/
def u₀ : UU := (initOf (Pipeline.cells (Pipeline.pin (pcfgs (F := F)) (adm m hok)) (cellOf_inj (adm m hok))) (Pipeline.launchToks (Pipeline.pin (pcfgs (F := F)) (adm m hok)) (cellOf_inj (adm m hok))), 1)

set_option backward.isDefEq.respectTransparency.types false in
/-- The run of the kernel's program: if the table it computes names a block inside the array, every weakly fair
    execution ends, with every buffer at `U5` and every semaphore counter at zero. -/
theorem kernel_run (ρ : Dev nD → PrngReg) :
    θ_run defs (onTc (τ := τ) (main (F := F))) ⟨m, fun _ => 0, ρ⟩ (fun r => (∀ c : Dev nD, ∀ b ∈ Pipeline.ucRefs τ sig, r.2.mem (c, b) = U5 m hok c b)
      ∧ r.2.sem = fun _ => 0) := by
  refine Pipeline.θ_run_regions_kit_dev_sems (pcfgs (F := F)) (adm m hok) (pdats m hok) () (cellOf_inj (adm m hok)) EP defs₀ Variants.none lvs lv0 m ρ main
    (fun _ => items m hok)
    (fun c Q => by
      rewrite [main_chain c, Pipeline.Seg.run_eq_chain,
        show (items m hok).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Pipeline.Seg.pipes_host, Pipeline.Seg.pipes_region, Pipeline.Seg.pipes_nil]; decide)
    (fun _ => 0) (fun g h => if_neg h) (G := fun _ => iprop(emp)) (u₀ := u₀ m hok) ?_
    (T₀ := fun c => iprop(StableHlo.held (c : Thread nD τ) (Pipeline.ucRefs τ sig) (U0 m c) ∗ Eo c))
    (Tₙ := fun c => StableHlo.held (c : Thread nD τ) (Pipeline.ucRefs τ sig) (U5 m hok c))
    (hch := fun c => ⟨.rfl, enter0 m hok c, leave0 m hok c, enter1 m hok c, leave1 m hok c, .rfl⟩)
    (hinit := ?_) (QY := fun c s => ∀ b ∈ Pipeline.ucRefs τ sig, s.mem (c, b) = U5 m hok c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach lvs lv0 fun c => ?_
    rw [show unscopedBufs c (fun b => m ((c : Thread nD τ).loc b)) = StableHlo.held (c : Thread nD τ) (Pipeline.ucRefs τ sig) (U0 m c) from Pipeline.unscopedBufs_held c (U0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (U5 m hok c) s') $$ [Hh HSI]
    · isplitl [Hh] <;> iassumption
    icases Hr with ⟨%h, HSI⟩
    imodintro
    isplitr
    · ipureintro; exact h
    · iexact HSI

end

end Cert.Proof.K
end
-- ==== Proof.Least.lean ====
/-
  The first position at which a family of ten extended reals takes its least value.
-/
module

public import Idealize.ShloMosaic.Lib.Pointwise

@[expose] public section

noncomputable section

namespace Cert.Proof

/-- `k` is the first of the ten positions at which `d` is least. -/
def First (d : Fin 10 → EReal) (k : Fin 10) : Prop :=
  (∀ i, d k ≤ d i) ∧ ∀ i, i < k → d k < d i

/-- There is such a position: the least of those where the minimum is taken. -/
theorem First.exists (d : Fin 10 → EReal) : ∃ k, First d k := by
  classical
  obtain ⟨k0, hk0⟩ := Finite.exists_min d
  have hne : (Finset.univ.filter fun k => ∀ i, d k ≤ d i).Nonempty := ⟨k0, by simpa using hk0⟩
  refine ⟨(Finset.univ.filter fun k => ∀ i, d k ≤ d i).min' hne, ?_, ?_⟩
  · have := Finset.min'_mem _ hne
    exact (Finset.mem_filter.mp this).2
  · intro i hi
    have hmem := (Finset.mem_filter.mp (Finset.min'_mem _ hne)).2
    refine lt_of_le_of_ne (hmem i) fun he => ?_
    have : i ∈ Finset.univ.filter fun k => ∀ i, d k ≤ d i :=
      Finset.mem_filter.mpr ⟨Finset.mem_univ _, fun j => he ▸ hmem j⟩
    exact absurd hi (not_lt.mpr (Finset.min'_le _ _ this))

/-- A fold whose operation keeps `w` against the start and against every entry, one of which is `w`, is `w`. -/
theorem fold_eq_of_keeps {α ι : Type} [DecidableEq ι] (op : α → α → α) [Std.Commutative op] [Std.Associative op]
    (b : α) (g : ι → α) (S : Finset ι) (i : ι) (hi : i ∈ S) (hb : op (g i) b = g i)
    (hg : ∀ j ∈ S, op (g i) (g j) = g i) : S.fold op b g = g i := by
  have keep : ∀ T : Finset ι, T ⊆ S → op (g i) (T.fold op b g) = g i := by
    intro T
    induction T using Finset.induction_on with
    | empty => intro _; rw [Finset.fold_empty]; exact hb
    | insert j T hj ih =>
      intro hT
      rw [Finset.fold_insert hj, ← Std.Associative.assoc (op := op), hg j (hT (Finset.mem_insert_self j T))]
      exact ih fun x hx => hT (Finset.mem_insert_of_mem hx)
  rw [← Finset.insert_erase hi, Finset.fold_insert (Finset.notMem_erase i S)]
  exact keep _ (Finset.erase_subset i S)

end Cert.Proof

end
-- ==== Proof.PickK.lean ====
/-
  The slot the kernel picks: the first of the ten whose distance is least.
-/
module

public import proofs.«01_k».proof.Proof.Run
public import proofs.«01_k».proof.Proof.Least

@[expose] public section

set_option maxRecDepth 16384

noncomputable section

namespace Cert.Proof.K

open Cert.KernelIdeal Cert.KernelIdeal.Gen
open Idealize.ShloMosaic

/-- The distance to slot `s` that the rows `s`, `10 + s` and `20 + s` of the accumulator give. -/
def distA (A : Vec Ideal S32x1x384 .f32) (s : Fin 10) : EReal :=
  Ideal.sqrt (∑ l : Fin 384, A (ix3 ⟨s.val, by omega⟩ 0 l))
    + Ideal.sqrt (∑ l : Fin 384, A (ix3 ⟨10 + s.val, by omega⟩ 0 l))
    + Ideal.sqrt (∑ l : Fin 384, A (ix3 ⟨20 + s.val, by omega⟩ 0 l))

theorem minsi_word (a b : Fin 128) (h : a ≤ b) :
    IntOp.minsi (BitVec.ofNat 32 a.val) (BitVec.ofNat 32 b.val) = BitVec.ofNat 32 a.val := by
  revert a b
  decide +kernel

theorem minsi_start (a : Fin 10) : IntOp.minsi (BitVec.ofNat 32 a.val) 2147483647#32 = BitVec.ofNat 32 a.val := by
  revert a
  decide +kernel

/-- The index read off the accumulator is the first position of the least distance. -/
theorem selIdx_first (A : Vec Ideal S32x1x384 .f32) (k : Fin 10) (hk : First (distA A) k) :
    extractAt ![0, 0, 0] (k0_pay3 A) inpos_S1x1x1_p0_0_0 = BitVec.ofNat 32 k.val := by
  pointwise [k0_pay3]
  have hmin : Finset.fold min (Ideal.ofBits FTy.f32 2139095040#32)
      (fun x : Fin 10 × Fin 1 => distA A x.1) Finset.univ = distA A k := by
    refine fold_eq_of_keeps min _ (fun x : Fin 10 × Fin 1 => distA A x.1) Finset.univ (k, 0) (Finset.mem_univ _) ?_ ?_
    · refine min_eq_left ?_
      rw [show Ideal.ofBits FTy.f32 2139095040#32 = ⊤ from by simp [Ideal.ofBits, Ideal.ieee]]
      exact le_top
    · intro j _
      exact min_eq_left (hk.1 j.1)
  change Finset.fold IntOp.minsi (2147483647#32) (fun x : Fin 10 × Fin 1 =>
    if distA A x.1 = Finset.fold min (Ideal.ofBits FTy.f32 2139095040#32)
      (fun x : Fin 10 × Fin 1 => distA A x.1) Finset.univ then BitVec.ofNat 32 x.1.val else 127#32) Finset.univ = _
  rw [hmin]
  refine (fold_eq_of_keeps IntOp.minsi _ _ Finset.univ ((k, 0) : Fin 10 × Fin 1) (Finset.mem_univ _) ?_ ?_).trans ?_
  · dsimp only
    rw [if_pos rfl]
    exact minsi_start k
  · intro j _
    dsimp only
    rw [if_pos rfl]
    by_cases hj : distA A j.1 = distA A k
    · rw [if_pos hj]
      have hle : k ≤ j.1 := not_lt.mp fun hlt => absurd (hk.2 j.1 hlt) (by rw [hj]; exact lt_irrefl _)
      exact minsi_word ⟨k.val, by omega⟩ ⟨j.1.val, by omega⟩ hle
    · rw [if_neg hj]
      exact minsi_word ⟨k.val, by omega⟩ ⟨127, by omega⟩ (by show k.val ≤ 127; omega)
  · dsimp only
    rw [if_pos rfl]

end Cert.Proof.K

end
-- ==== Proof.Blocks0.lean ====
/-
  The first region's blocks and arrays at an index: what each point reads, the index it leaves, and the left halves of
  the three joined arrays.
-/
module

public import proofs.«01_k».proof.Proof.PickK
public import proofs.«01_k».proof.Proof.Gen.KernelIdeal.Points
public import Idealize.ShloMosaic.Lib.Pipeline.Value

@[expose] public section

set_option maxRecDepth 16384

noncomputable section

namespace Cert.Proof.K

open Cert.KernelIdeal Cert.KernelIdeal.Gen
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))

/-! ### Where the blocks lie -/

theorem at0_0 : ∀ t : Fin cfg0.N, win0_0.index t (0 : Fin 2) = t.val / 10 ∧ win0_0.index t (1 : Fin 2) = 0 :=
  (by decide +kernel : ∀ t : Fin grid0.N, _)
theorem at0_1 : ∀ t : Fin cfg0.N, win0_1.index t (0 : Fin 2) = t.val / 10 ∧ win0_1.index t (1 : Fin 2) = 0 :=
  (by decide +kernel : ∀ t : Fin grid0.N, _)
theorem at0_2 : ∀ t : Fin cfg0.N, win0_2.index t (0 : Fin 2) = t.val / 10 ∧ win0_2.index t (1 : Fin 2) = 0 :=
  (by decide +kernel : ∀ t : Fin grid0.N, _)
theorem at0_3 : ∀ t : Fin cfg0.N, win0_3.index t (0 : Fin 4) = t.val % 10 ∧ win0_3.index t (1 : Fin 4) = 0
    ∧ win0_3.index t (2 : Fin 4) = t.val / 10 ∧ win0_3.index t (3 : Fin 4) = 0 :=
  (by decide +kernel : ∀ t : Fin grid0.N, _)
theorem at0_4 : ∀ t : Fin cfg0.N, win0_4.index t (0 : Fin 2) = 0 ∧ win0_4.index t (1 : Fin 2) = 0 :=
  (by decide +kernel : ∀ t : Fin grid0.N, _)
theorem at0_5 : ∀ t : Fin cfg0.N, win0_5.index t (0 : Fin 2) = t.val / 10 ∧ win0_5.index t (1 : Fin 2) = 0 :=
  (by decide +kernel : ∀ t : Fin grid0.N, _)
theorem at0_6 : ∀ t : Fin cfg0.N, win0_6.index t (0 : Fin 2) = t.val / 10 ∧ win0_6.index t (1 : Fin 2) = 0 :=
  (by decide +kernel : ∀ t : Fin grid0.N, _)
theorem at0_7 : ∀ t : Fin cfg0.N, win0_7.index t (0 : Fin 2) = t.val / 10 ∧ win0_7.index t (1 : Fin 2) = 0 :=
  (by decide +kernel : ∀ t : Fin grid0.N, _)

theorem N0_lt (t : Fin cfg0.N) : t.val < 20 := by have h : cfg0.N = 20 := N_0; have := t.isLt; omega

/-- The row of the whole feature that row `r` of the block at point `t` is. -/
def row0 (t : Fin cfg0.N) (r : Fin 2048) : Fin 4096 := ⟨t.val / 10 * 2048 + r.val, by have := N0_lt t; omega⟩

/-- The slot of point `t`. -/
def slot0 (t : Fin cfg0.N) : Fin 10 := ⟨t.val % 10, by omega⟩

theorem x0_apply (c : Dev nD) (t : Fin cfg0.N) (r : Fin 2048) (l : Fin 384) :
    x0 V c t (ix2 r l) = V c main_v1 (ix2 (row0 t r) l) := by
  have e := at0_0 t
  unfold x0
  rw [View.read_apply]
  refine congrArg (V c main_v1) (funext fun a => Fin.ext ?_)
  match a with
  | ⟨0, _⟩ => show win0_0.index t (0 : Fin 2) * 2048 + 1 * r.val = t.val / 10 * 2048 + r.val; omega
  | ⟨1, _⟩ => show win0_0.index t (1 : Fin 2) * 384 + 1 * l.val = l.val; omega

theorem x1_apply (c : Dev nD) (t : Fin cfg0.N) (r : Fin 2048) (l : Fin 384) :
    x1 V c t (ix2 r l) = V c main_v3 (ix2 (row0 t r) l) := by
  have e := at0_1 t
  unfold x1
  rw [View.read_apply]
  refine congrArg (V c main_v3) (funext fun a => Fin.ext ?_)
  match a with
  | ⟨0, _⟩ => show win0_1.index t (0 : Fin 2) * 2048 + 1 * r.val = t.val / 10 * 2048 + r.val; omega
  | ⟨1, _⟩ => show win0_1.index t (1 : Fin 2) * 384 + 1 * l.val = l.val; omega

theorem x2_apply (c : Dev nD) (t : Fin cfg0.N) (r : Fin 2048) (l : Fin 384) :
    x2 V c t (ix2 r l) = V c main_v5 (ix2 (row0 t r) l) := by
  have e := at0_2 t
  unfold x2
  rw [View.read_apply]
  refine congrArg (V c main_v5) (funext fun a => Fin.ext ?_)
  match a with
  | ⟨0, _⟩ => show win0_2.index t (0 : Fin 2) * 2048 + 1 * r.val = t.val / 10 * 2048 + r.val; omega
  | ⟨1, _⟩ => show win0_2.index t (1 : Fin 2) * 384 + 1 * l.val = l.val; omega

theorem x3_apply (c : Dev nD) (t : Fin cfg0.N) (j : Fin 3) (r : Fin 2048) (l : Fin 384) :
    x3 V c t (ix4 0 j r l) = V c main_v7 (ix4 (slot0 t) j (row0 t r) l) := by
  have e := at0_3 t
  unfold x3
  rw [View.read_apply]
  refine congrArg (V c main_v7) (funext fun a => Fin.ext ?_)
  match a with
  | ⟨0, _⟩ => show win0_3.index t (0 : Fin 4) * 1 + 1 * 0 = t.val % 10; omega
  | ⟨1, _⟩ => show win0_3.index t (1 : Fin 4) * 3 + 1 * j.val = j.val; omega
  | ⟨2, _⟩ => show win0_3.index t (2 : Fin 4) * 2048 + 1 * r.val = t.val / 10 * 2048 + r.val; omega
  | ⟨3, _⟩ => show win0_3.index t (3 : Fin 4) * 384 + 1 * l.val = l.val; omega

/-! ### The arrays at the end of the region -/

theorem last0_lt : 19 < cfg0.N := by have h : cfg0.N = 20 := N_0; omega

theorem cover4 (c : Dev nD) (i : ((cfg0.win 4).arr.view.loc (c.tc : Thread nD τ)).2.ty.Idx) : i ∈ ((cfg0.win 4).blk (⟨19, last0_lt⟩ : Fin cfg0.N)).view.set := by
  show i ∈ ((View.whole main_v8_0).slice (win0_4.rect (⟨19, last0_lt⟩ : Fin cfg0.N))).set
  rw [View.set_slice_whole, Rect.mem_set_unit]
  intro a
  have h0 : (i 0 : Nat) < 1 := (i 0).isLt
  have h1 : (i 1 : Nat) < 1 := (i 1).isLt
  have e := at0_4 ⟨19, last0_lt⟩
  match a with
  | ⟨0, _⟩ => show win0_4.index _ (0 : Fin 2) * 1 ≤ (i 0 : Nat) ∧ (i 0 : Nat) < win0_4.index _ (0 : Fin 2) * 1 + 1; rw [e.1]; omega
  | ⟨1, _⟩ => show win0_4.index _ (1 : Fin 2) * 1 ≤ (i 1 : Nat) ∧ (i 1 : Nat) < win0_4.index _ (1 : Fin 2) * 1 + 1; rw [e.2]; omega

theorem cut4 (t : Fin cfg0.N) (w : Elt F .i32) :
    (cfg0.win 4).cut (cfg0.grid.coords t) ((fun _ => w) : S1x1.Idx → Elt F .i32)
      = ((cfg0.win 4).blk t).view.read (Elt F) ((fun _ => w) : S1x1.Idx → Elt F .i32) :=
  funext fun j => by rw [View.read_apply]; rfl

/-- The index is the one read off the whole accumulator. -/
theorem arr4_eq (c : Dev nD) : (dat0 V c).arrAt 4 cfg0.N = selIdx (accN V c 20) :=
  (dat0 V c).arrAt_eq_of_cover 4 (selIdx (accN V c 20)) (fun t _ =>
    (congrArg ((cfg0.win 4).cut (cfg0.grid.coords t)) (after0_4 V c t)).trans (cut4 t _))
    fun i => ⟨⟨19, last0_lt⟩, (flush0_4 _).mpr rfl, cover4 c i⟩

/-- An array whose left half is `f`. -/
def left (f : S4096x384.Idx → Elt F .f32) (g : S4096x768.Idx → Elt F .f32) : S4096x768.Idx → Elt F .f32 :=
  fun i => if h : (i 1 : Nat) < 384 then f (ix2 (i 0) ⟨(i 1 : Nat), h⟩) else g i

theorem left_apply (f : S4096x384.Idx → Elt F .f32) (g : S4096x768.Idx → Elt F .f32) (i : S4096x768.Idx) (r : Fin 4096) (l : Fin 384)
    (h0 : (i 0 : Nat) = r.val) (h1 : (i 1 : Nat) = l.val) : left f g i = f (ix2 r l) := by
  have h : (i 1 : Nat) < 384 := by omega
  unfold left
  rw [dif_pos h]
  exact congrArg f (congrArg₂ ix2 (Fin.ext h0) (Fin.ext h1))

/-- The first point that writes the block row `r` lies in back. -/
def back0 (r : Fin 4096) : Fin cfg0.N := ⟨r.val / 2048 * 10 + 9, by have h : cfg0.N = 20 := N_0; omega⟩

/-- The left halves end holding the features. -/
theorem half5 (c : Dev nD) (r : Fin 4096) (l : Fin 384) :
    (dat0 V c).arrAt 5 cfg0.N (ix2 r ⟨l.val, by omega⟩) = V c main_v1 (ix2 r l) := by
  refine ((dat0 V c).arrAt_apply_of_mem 5 (left (V c main_v1) ((dat0 V c).A 5)) (fun t hf => ?_) cfg0.N (back0 r) _ (back0 r).isLt
    ((flush0_5 _).mpr (by show (r.val / 2048 * 10 + 9) % 10 = 9; omega)) ?_).trans (left_apply _ _ _ r l rfl rfl)
  · show (cfg0.win 5).cut (cfg0.grid.coords t) ((dat0 V c).after 5 t) = _
    rw [after0_5]
    have e := at0_5 t
    have hf' := (flush0_5 t).mp hf
    funext j
    rw [View.read_apply]
    refine Eq.trans ?_ (left_apply _ _ _ (row0 t (j 0)) (j 1) ?_ ?_).symm
    · show k0_pay5 (x0 V c (base t)) (ix2 (j 0) (j 1)) = _
      unfold k0_pay5
      rw [shapeCast_self]
      refine (x0_apply V c (base t) (j 0) (j 1)).trans ?_
      exact congrArg (V c main_v1) (congrArg₂ ix2 (Fin.ext (by show t.val / 10 * 10 / 10 * 2048 + _ = t.val / 10 * 2048 + _; omega)) rfl)
    · show win0_5.index t (0 : Fin 2) * 2048 + 1 * (j 0 : Nat) = t.val / 10 * 2048 + (j 0 : Nat); omega
    · show win0_5.index t (1 : Fin 2) * 384 + 1 * (j 1 : Nat) = (j 1 : Nat); omega
  · show _ ∈ ((View.whole main_v8_1).slice (win0_5.rect _)).set
    rw [View.set_slice_whole, Rect.mem_set_unit]
    have e := at0_5 (back0 r)
    have hb : (back0 r).val = r.val / 2048 * 10 + 9 := rfl
    intro a
    match a with
    | ⟨0, _⟩ => show win0_5.index _ (0 : Fin 2) * 2048 ≤ r.val ∧ r.val < win0_5.index _ (0 : Fin 2) * 2048 + 2048; rw [e.1]; omega
    | ⟨1, _⟩ => show win0_5.index _ (1 : Fin 2) * 384 ≤ l.val ∧ l.val < win0_5.index _ (1 : Fin 2) * 384 + 384; rw [e.2]; omega

theorem half6 (c : Dev nD) (r : Fin 4096) (l : Fin 384) :
    (dat0 V c).arrAt 6 cfg0.N (ix2 r ⟨l.val, by omega⟩) = V c main_v3 (ix2 r l) := by
  refine ((dat0 V c).arrAt_apply_of_mem 6 (left (V c main_v3) ((dat0 V c).A 6)) (fun t hf => ?_) cfg0.N (back0 r) _ (back0 r).isLt
    ((flush0_6 _).mpr (by show (r.val / 2048 * 10 + 9) % 10 = 9; omega)) ?_).trans (left_apply _ _ _ r l rfl rfl)
  · show (cfg0.win 6).cut (cfg0.grid.coords t) ((dat0 V c).after 6 t) = _
    rw [after0_6]
    have e := at0_6 t
    have hf' := (flush0_6 t).mp hf
    funext j
    rw [View.read_apply]
    refine Eq.trans ?_ (left_apply _ _ _ (row0 t (j 0)) (j 1) ?_ ?_).symm
    · show k0_pay6 (x1 V c (base t)) (ix2 (j 0) (j 1)) = _
      unfold k0_pay6
      rw [shapeCast_self]
      refine (x1_apply V c (base t) (j 0) (j 1)).trans ?_
      exact congrArg (V c main_v3) (congrArg₂ ix2 (Fin.ext (by show t.val / 10 * 10 / 10 * 2048 + _ = t.val / 10 * 2048 + _; omega)) rfl)
    · show win0_6.index t (0 : Fin 2) * 2048 + 1 * (j 0 : Nat) = t.val / 10 * 2048 + (j 0 : Nat); omega
    · show win0_6.index t (1 : Fin 2) * 384 + 1 * (j 1 : Nat) = (j 1 : Nat); omega
  · show _ ∈ ((View.whole main_v8_2).slice (win0_6.rect _)).set
    rw [View.set_slice_whole, Rect.mem_set_unit]
    have e := at0_6 (back0 r)
    have hb : (back0 r).val = r.val / 2048 * 10 + 9 := rfl
    intro a
    match a with
    | ⟨0, _⟩ => show win0_6.index _ (0 : Fin 2) * 2048 ≤ r.val ∧ r.val < win0_6.index _ (0 : Fin 2) * 2048 + 2048; rw [e.1]; omega
    | ⟨1, _⟩ => show win0_6.index _ (1 : Fin 2) * 384 ≤ l.val ∧ l.val < win0_6.index _ (1 : Fin 2) * 384 + 384; rw [e.2]; omega

theorem half7 (c : Dev nD) (r : Fin 4096) (l : Fin 384) :
    (dat0 V c).arrAt 7 cfg0.N (ix2 r ⟨l.val, by omega⟩) = V c main_v5 (ix2 r l) := by
  refine ((dat0 V c).arrAt_apply_of_mem 7 (left (V c main_v5) ((dat0 V c).A 7)) (fun t hf => ?_) cfg0.N (back0 r) _ (back0 r).isLt
    ((flush0_7 _).mpr (by show (r.val / 2048 * 10 + 9) % 10 = 9; omega)) ?_).trans (left_apply _ _ _ r l rfl rfl)
  · show (cfg0.win 7).cut (cfg0.grid.coords t) ((dat0 V c).after 7 t) = _
    rw [after0_7]
    have e := at0_7 t
    have hf' := (flush0_7 t).mp hf
    funext j
    rw [View.read_apply]
    refine Eq.trans ?_ (left_apply _ _ _ (row0 t (j 0)) (j 1) ?_ ?_).symm
    · show k0_pay7 (x2 V c (base t)) (ix2 (j 0) (j 1)) = _
      unfold k0_pay7
      rw [shapeCast_self]
      refine (x2_apply V c (base t) (j 0) (j 1)).trans ?_
      exact congrArg (V c main_v5) (congrArg₂ ix2 (Fin.ext (by show t.val / 10 * 10 / 10 * 2048 + _ = t.val / 10 * 2048 + _; omega)) rfl)
    · show win0_7.index t (0 : Fin 2) * 2048 + 1 * (j 0 : Nat) = t.val / 10 * 2048 + (j 0 : Nat); omega
    · show win0_7.index t (1 : Fin 2) * 384 + 1 * (j 1 : Nat) = (j 1 : Nat); omega
  · show _ ∈ ((View.whole main_v8_3).slice (win0_7.rect _)).set
    rw [View.set_slice_whole, Rect.mem_set_unit]
    have e := at0_7 (back0 r)
    have hb : (back0 r).val = r.val / 2048 * 10 + 9 := rfl
    intro a
    match a with
    | ⟨0, _⟩ => show win0_7.index _ (0 : Fin 2) * 2048 ≤ r.val ∧ r.val < win0_7.index _ (0 : Fin 2) * 2048 + 2048; rw [e.1]; omega
    | ⟨1, _⟩ => show win0_7.index _ (1 : Fin 2) * 384 ≤ l.val ∧ l.val < win0_7.index _ (1 : Fin 2) * 384 + 384; rw [e.2]; omega

end Cert.Proof.K

end
-- ==== Proof.Table.lean ====
/-
  The table the second region is given holds the position of the least distance, and so names a block inside the memory.
-/
module

public import proofs.«01_k».proof.Proof.Blocks0

@[expose] public section

set_option maxRecDepth 16384

noncomputable section

namespace Cert.Proof.K

open Cert.KernelIdeal Cert.KernelIdeal.Gen
open Idealize.ShloMosaic Idealize.ShloMosaic.TcCoe Idealize.ShloMosaic.StableHlo

section
variable {F : FTy → Type} [FloatOps F] (V : Valuation τ sig (Elt F))

theorem host1_v9 : after hostOps1 V (main_v9 : DevRef τ sig) = shapeCast S1 (V (main_v8_0 : DevRef τ sig)) shapeCasts_S1x1_S1 := by
  after_results
  rfl

theorem cast_selIdx (A : Vec F S32x1x384 .f32) (i : S1.Idx) :
    shapeCast S1 (selIdx A) shapeCasts_S1x1_S1 i = extractAt ![0, 0, 0] (k0_pay3 A) inpos_S1x1x1_p0_0_0 := rfl

end

variable (m : (ℓ : Loc nD τ sig) → Buf (Elt Ideal) ℓ)

/-- The distances of the ten slots, as the first region accumulates them. -/
abbrev dists (c : Dev nD) : Fin 10 → EReal := distA (accN (B1 m) c 20)

theorem U3_v9 (c : Dev nD) (k : Fin 10) (hk : First (dists m c) k) (i : S1.Idx) :
    (U3 m c (main_v9 : DevRef τ sig) : S1.Idx → BitVec 32) i = BitVec.ofNat 32 k.val := by
  unfold U3
  rw [host1_v9, U2_v8_0, arr4_eq]
  exact (cast_selIdx _ i).trans (selIdx_first _ k hk)

theorem tab_at (k : Fin 10) (hk : First (dists m 0) k) :
    (tab m).at 0 (Rect.unit (s := S1) ![0] S1.size inb_S1_S1_0) numel1_S1 = BitVec.ofNat 32 k.val :=
  U3_v9 m 0 k hk _

theorem word_nat (k : Fin 10) : (BitVec.ofNat 32 k.val).toNat = k.val := by
  revert k
  decide

/-- The block at a point of the second region: the slot, the channel, the batch. -/
theorem tab_block (k : Fin 10) (hk : First (dists m 0) k) (i : grid1.Coords) :
    cc1_transform_0 inb_S1_S1_0 numel1_S1 (tab m) i
      = ![k.val, (BitVec.ofNat 32 (i 1).val).toNat, (BitVec.ofNat 32 (i 0).val).toNat, 0] := by
  unfold cc1_transform_0
  dsimp only
  rw [tab_at m k hk, word_nat]
  rfl

theorem ok (k : Fin 10) (hk : First (dists m 0) k) : ok1 (tab m) := by
  intro i
  refine ⟨fun a => ?_, Or.inl rfl⟩
  rw [tab_block m k hk]
  have h0 : (i 0).val < 4 := (i 0).isLt
  have h1 : (i 1).val < 3 := (i 1).isLt
  match a with
  | ⟨0, _⟩ => show (k.val + 1) * 1 ≤ 10; omega
  | ⟨1, _⟩ =>
    show ((BitVec.ofNat 32 (i 1).val).toNat + 1) * 1 ≤ 3
    rw [BitVec.toNat_ofNat]; omega
  | ⟨2, _⟩ =>
    show ((BitVec.ofNat 32 (i 0).val).toNat + 1) * 1024 ≤ 4096
    rw [BitVec.toNat_ofNat]; omega
  | ⟨3, _⟩ => show (0 + 1) * 384 ≤ 384; omega

end Cert.Proof.K

end
-- ==== Proof.Blocks1.lean ====
/-
  The second region's blocks and arrays at an index, given the slot that its table names: the right halves of the three
  joined arrays end holding the slot, their left halves as found, and the gathered array is the slot.
-/
module

public import proofs.«01_k».proof.Proof.Table
public import Idealize.ShloMosaic.Lib.Pointwise

@[expose] public section

set_option maxRecDepth 16384

noncomputable section

namespace Cert.Proof.K

open Cert.KernelIdeal Cert.KernelIdeal.Gen
open Idealize.ShloMosaic Idealize.ShloMosaic.TcCoe
open Idealize.ShloMosaic.Pipeline (Dat)

variable {F : FTy → Type} [FloatOps F]
variable (V : (c : Dev nD) → (b : Ref sig .tc) → Buf (Elt F) ((c : Thread nD τ).loc b))
variable (a : (pcfg1 (F := F)).Adm) (k : Fin 10)

/-- The table names slot `k`. -/
def Names : Prop := ∀ i : grid1.Coords, cc1_transform_0 inb_S1_S1_0 numel1_S1 a.1 i
  = ![k.val, (BitVec.ofNat 32 (i 1).val).toNat, (BitVec.ofNat 32 (i 0).val).toNat, 0]

/-! ### Where the blocks lie -/

theorem coord1 : ∀ t : Fin grid1.N, (BitVec.ofNat 32 (grid1.coords t 0).val).toNat = t.val / 3 ∧ (BitVec.ofNat 32 (grid1.coords t 1).val).toNat = t.val % 3 := by
  decide +kernel
theorem at1_4 : ∀ t : Fin grid1.N, cc1_transform_4 (grid1.coords t) (0 : Fin 3) = t.val / 3 ∧ cc1_transform_4 (grid1.coords t) (1 : Fin 3) = 0
    ∧ cc1_transform_4 (grid1.coords t) (2 : Fin 3) = 1 := by decide +kernel
theorem at1_5 : ∀ t : Fin grid1.N, cc1_transform_5 (grid1.coords t) (0 : Fin 3) = t.val / 3 ∧ cc1_transform_5 (grid1.coords t) (1 : Fin 3) = 0
    ∧ cc1_transform_5 (grid1.coords t) (2 : Fin 3) = 1 := by decide +kernel
theorem at1_6 : ∀ t : Fin grid1.N, cc1_transform_6 (grid1.coords t) (0 : Fin 3) = t.val / 3 ∧ cc1_transform_6 (grid1.coords t) (1 : Fin 3) = 0
    ∧ cc1_transform_6 (grid1.coords t) (2 : Fin 3) = 1 := by decide +kernel
theorem at1_7 : ∀ t : Fin grid1.N, cc1_transform_7 (grid1.coords t) (0 : Fin 4) = t.val % 3 ∧ cc1_transform_7 (grid1.coords t) (1 : Fin 4) = t.val / 3
    ∧ cc1_transform_7 (grid1.coords t) (2 : Fin 4) = 0 ∧ cc1_transform_7 (grid1.coords t) (3 : Fin 4) = 0 := by decide +kernel

theorem N1_lt (t : Fin (cfg1 a).N) : t.val < 12 := by have h : (cfg1 a).N = 12 := N_1; have := t.isLt; omega

/-- The row of the whole array that row `r` of image `n` is. -/
def row1 (n : Fin 4) (r : Fin 1024) : Fin 4096 := ⟨n.val * 1024 + r.val, by omega⟩

/-- The image and the channel of a point. -/
def img (t : Fin (cfg1 a).N) : Fin 4 := ⟨t.val / 3, by have := N1_lt a t; omega⟩
def chn (t : Fin (cfg1 a).N) : Fin 3 := ⟨t.val % 3, by omega⟩

theorem at1_0 (ha : Names a k) (t : Fin (cfg1 a).N) : cc1_transform_0 inb_S1_S1_0 numel1_S1 a.1 (grid1.coords t) = ![k.val, t.val % 3, t.val / 3, 0] := by
  have e := coord1 t
  rw [ha, e.1, e.2]

theorem yb_apply (ha : Names a k) (c : Dev nD) (t : Fin (cfg1 a).N) (r : Fin 1024) (l : Fin 384) :
    yb a V c t (ix4 0 0 r l) = V c main_v7 (ix4 k (chn a t) (row1 (img a t) r) l) := by
  have e := at1_0 a k ha t
  refine (show yb a V c t (ix4 0 0 r l) = V c main_v7 ((((cfg1 a).win 0).blk t).view.emb (ix4 0 0 r l)) from rfl).trans ?_
  refine congrArg (V c main_v7) (funext fun b => Fin.ext ?_)
  match b with
  | ⟨0, _⟩ =>
    show cc1_transform_0 inb_S1_S1_0 numel1_S1 a.1 (grid1.coords t) (0 : Fin 4) * 1 + 1 * 0 = k.val
    rw [e]; show k.val * 1 + 1 * 0 = k.val; omega
  | ⟨1, _⟩ =>
    show cc1_transform_0 inb_S1_S1_0 numel1_S1 a.1 (grid1.coords t) (1 : Fin 4) * 1 + 1 * 0 = t.val % 3
    rw [e]; show t.val % 3 * 1 + 1 * 0 = t.val % 3; omega
  | ⟨2, _⟩ =>
    show cc1_transform_0 inb_S1_S1_0 numel1_S1 a.1 (grid1.coords t) (2 : Fin 4) * 1024 + 1 * r.val = t.val / 3 * 1024 + r.val
    rw [e]; show t.val / 3 * 1024 + 1 * r.val = _; omega
  | ⟨3, _⟩ =>
    show cc1_transform_0 inb_S1_S1_0 numel1_S1 a.1 (grid1.coords t) (3 : Fin 4) * 384 + 1 * l.val = l.val
    rw [e]; show 0 * 384 + 1 * l.val = _; omega

/-! ### What the body writes, at an index -/

theorem pay2_apply (y : Vec F S1x1x1024x384 .f32) (r : Fin 1024) (l : Fin 384) : k1_pay2 y (ix3 0 r l) = y (ix4 0 0 r l) := by
  pointwise [k1_pay2, k1_pay1]
theorem pay3_apply (y : Vec F S1x1x1024x384 .f32) (r : Fin 1024) (l : Fin 384) : k1_pay3 y (ix3 0 r l) = y (ix4 0 0 r l) := by
  pointwise [k1_pay3, k1_pay1]
theorem pay4_apply (y : Vec F S1x1x1024x384 .f32) (r : Fin 1024) (l : Fin 384) : k1_pay4 y (ix3 0 r l) = y (ix4 0 0 r l) := by
  pointwise [k1_pay4, k1_pay1]
theorem pay5_apply (y : Vec F S1x1x1024x384 .f32) (r : Fin 1024) (l : Fin 384) : k1_pay5 y (ix4 0 0 r l) = y (ix4 0 0 r l) := by
  pointwise [k1_pay5, k1_pay1]

/-! ### The arrays at the end of the region -/

/-- An array whose right half is `f`. -/
def right (f : Fin 4 → Fin 1024 → Fin 384 → Elt F .f32) (g : S4x1024x768.Idx → Elt F .f32) : S4x1024x768.Idx → Elt F .f32 :=
  fun i => if 384 ≤ (i 2 : Nat) then f (i 0) (i 1) ⟨(i 2 : Nat) - 384, by have h2 : (i 2 : Nat) < 768 := (i 2).isLt; omega⟩ else g i

theorem right_apply (f : Fin 4 → Fin 1024 → Fin 384 → Elt F .f32) (g : S4x1024x768.Idx → Elt F .f32) (i : S4x1024x768.Idx) (n : Fin 4) (r : Fin 1024) (l : Fin 384)
    (h0 : (i 0 : Nat) = n.val) (h1 : (i 1 : Nat) = r.val) (h2 : (i 2 : Nat) = 384 + l.val) : right f g i = f n r l := by
  unfold right
  rw [if_pos (by omega)]
  exact congr (congrArg₂ f (Fin.ext h0) (Fin.ext h1)) (Fin.ext (by show (i 2 : Nat) - 384 = l.val; omega))

/-- The point that writes image `n` of a joined array back. -/
def back1 (n : Fin 4) : Fin (cfg1 a).N := ⟨n.val * 3 + 2, by have h : (cfg1 a).N = 12 := N_1; omega⟩

/-- Joined array 1: its right half ends holding part 0 of slot `k`, -/
theorem right1_1 (ha : Names a k) (c : Dev nD) (n : Fin 4) (r : Fin 1024) (l : Fin 384) :
    (dat1 a V c).arrAt (1 : Fin 5) (cfg1 a).N (ix3 n r ⟨384 + l.val, by omega⟩) = V c main_v7 (ix4 k 0 (row1 n r) l) := by
  refine ((dat1 a V c).arrAt_apply_of_mem (1 : Fin 5) (right (fun n r l => V c main_v7 (ix4 k 0 (row1 n r) l)) ((dat1 a V c).A (1 : Fin 5)))
    (fun t hf => ?_) (cfg1 a).N (back1 a n) _ (back1 a n).isLt
    ((flush1_1 a _).trans (decide_eq_true (by show (n.val * 3 + 2) % 3 = 2; omega))) ?_).trans (right_apply _ _ _ n r l rfl rfl rfl)
  · show ((cfg1 a).win (1 : Fin 5)).cut ((cfg1 a).grid.coords t) ((dat1 a V c).after (1 : Fin 5) t) = _
    rw [after1_1]
    have e := at1_4 t
    have hf' := of_decide_eq_true ((flush1_1 a t).symm.trans hf)
    have hN := N1_lt a t
    funext j
    show _ = right (fun n r l => V c main_v7 (ix4 k 0 (row1 n r) l)) ((dat1 a V c).A (1 : Fin 5)) ((((cfg1 a).win (1 : Fin 5)).blk t).view.emb j)
    have h0 : (j 0 : Nat) < 1 := (j 0).isLt
    refine Eq.trans ?_ (right_apply _ _ _ (img a t) (j 1) (j 2) ?_ ?_ ?_).symm
    · show k1_pay2 (yb a V c (chan a 0 t)) (ix3 (j 0) (j 1) (j 2)) = _
      rw [show (j 0) = (0 : Fin 1) from Fin.ext (by show (j 0 : Nat) = 0; omega)]
      refine (pay2_apply _ (j 1) (j 2)).trans ((yb_apply V a k ha c (chan a 0 t) (j 1) (j 2)).trans ?_)
      exact congrArg (V c main_v7) (congr (congrArg₂ (ix4 k)
        (Fin.ext (by show (t.val / 3 * 3 + 0) % 3 = 0; omega))
        (congrArg (fun n => row1 n (j 1)) (Fin.ext (by show (t.val / 3 * 3 + 0) / 3 = t.val / 3; omega)))) rfl)
    · show cc1_transform_4 (grid1.coords t) (0 : Fin 3) * 1 + 1 * (j 0 : Nat) = t.val / 3; omega
    · show cc1_transform_4 (grid1.coords t) (1 : Fin 3) * 1024 + 1 * (j 1 : Nat) = (j 1 : Nat); omega
    · show cc1_transform_4 (grid1.coords t) (2 : Fin 3) * 384 + 1 * (j 2 : Nat) = 384 + (j 2 : Nat); omega
  · show _ ∈ ((View.whole main_v13_0).slice (((cfg1 a).win (1 : Fin 5)).rect _)).set
    rw [View.set_slice_whole, Rect.mem_set_unit]
    have e := at1_4 (back1 a n)
    have hb : (back1 a n).val = n.val * 3 + 2 := rfl
    intro b
    match b with
    | ⟨0, _⟩ => show cc1_transform_4 (grid1.coords (back1 a n)) (0 : Fin 3) * 1 ≤ n.val ∧ n.val < cc1_transform_4 (grid1.coords (back1 a n)) (0 : Fin 3) * 1 + 1; rw [e.1]; omega
    | ⟨1, _⟩ => show cc1_transform_4 (grid1.coords (back1 a n)) (1 : Fin 3) * 1024 ≤ r.val ∧ r.val < cc1_transform_4 (grid1.coords (back1 a n)) (1 : Fin 3) * 1024 + 1024; rw [e.2.1]; omega
    | ⟨2, _⟩ => show cc1_transform_4 (grid1.coords (back1 a n)) (2 : Fin 3) * 384 ≤ 384 + l.val ∧ 384 + l.val < cc1_transform_4 (grid1.coords (back1 a n)) (2 : Fin 3) * 384 + 384; rw [e.2.2]; omega

/-- and its left half as it was. -/
theorem left1_1 (c : Dev nD) (n : Fin 4) (r : Fin 1024) (l : Fin 384) :
    (dat1 a V c).arrAt (1 : Fin 5) (cfg1 a).N (ix3 n r ⟨l.val, by omega⟩) = V c main_v13_0 (ix3 n r ⟨l.val, by omega⟩) := by
  refine ((dat1 a V c).arrAt_apply_of_forall_not_mem (1 : Fin 5) (cfg1 a).N _ (fun t _ _ hm => ?_)).trans rfl
  have hm : (ix3 n r ⟨l.val, by omega⟩ : S4x1024x768.Idx) ∈ ((View.whole main_v13_0).slice (((cfg1 a).win (1 : Fin 5)).rect t)).set := hm
  rw [View.set_slice_whole, Rect.mem_set_unit] at hm
  have h2 : cc1_transform_4 (grid1.coords t) (2 : Fin 3) * 384 ≤ l.val := (hm (2 : Fin 3)).1
  rw [(at1_4 t).2.2] at h2
  omega

/-- Joined array 2: its right half ends holding part 1 of slot `k`, -/
theorem right1_2 (ha : Names a k) (c : Dev nD) (n : Fin 4) (r : Fin 1024) (l : Fin 384) :
    (dat1 a V c).arrAt (2 : Fin 5) (cfg1 a).N (ix3 n r ⟨384 + l.val, by omega⟩) = V c main_v7 (ix4 k 1 (row1 n r) l) := by
  refine ((dat1 a V c).arrAt_apply_of_mem (2 : Fin 5) (right (fun n r l => V c main_v7 (ix4 k 1 (row1 n r) l)) ((dat1 a V c).A (2 : Fin 5)))
    (fun t hf => ?_) (cfg1 a).N (back1 a n) _ (back1 a n).isLt
    ((flush1_2 a _).trans (decide_eq_true (by show (n.val * 3 + 2) % 3 = 2; omega))) ?_).trans (right_apply _ _ _ n r l rfl rfl rfl)
  · show ((cfg1 a).win (2 : Fin 5)).cut ((cfg1 a).grid.coords t) ((dat1 a V c).after (2 : Fin 5) t) = _
    rw [after1_2]
    have e := at1_5 t
    have hf' := of_decide_eq_true ((flush1_2 a t).symm.trans hf)
    have hN := N1_lt a t
    funext j
    show _ = right (fun n r l => V c main_v7 (ix4 k 1 (row1 n r) l)) ((dat1 a V c).A (2 : Fin 5)) ((((cfg1 a).win (2 : Fin 5)).blk t).view.emb j)
    have h0 : (j 0 : Nat) < 1 := (j 0).isLt
    refine Eq.trans ?_ (right_apply _ _ _ (img a t) (j 1) (j 2) ?_ ?_ ?_).symm
    · show k1_pay3 (yb a V c (chan a 1 t)) (ix3 (j 0) (j 1) (j 2)) = _
      rw [show (j 0) = (0 : Fin 1) from Fin.ext (by show (j 0 : Nat) = 0; omega)]
      refine (pay3_apply _ (j 1) (j 2)).trans ((yb_apply V a k ha c (chan a 1 t) (j 1) (j 2)).trans ?_)
      exact congrArg (V c main_v7) (congr (congrArg₂ (ix4 k)
        (Fin.ext (by show (t.val / 3 * 3 + 1) % 3 = 1; omega))
        (congrArg (fun n => row1 n (j 1)) (Fin.ext (by show (t.val / 3 * 3 + 1) / 3 = t.val / 3; omega)))) rfl)
    · show cc1_transform_5 (grid1.coords t) (0 : Fin 3) * 1 + 1 * (j 0 : Nat) = t.val / 3; omega
    · show cc1_transform_5 (grid1.coords t) (1 : Fin 3) * 1024 + 1 * (j 1 : Nat) = (j 1 : Nat); omega
    · show cc1_transform_5 (grid1.coords t) (2 : Fin 3) * 384 + 1 * (j 2 : Nat) = 384 + (j 2 : Nat); omega
  · show _ ∈ ((View.whole main_v13_1).slice (((cfg1 a).win (2 : Fin 5)).rect _)).set
    rw [View.set_slice_whole, Rect.mem_set_unit]
    have e := at1_5 (back1 a n)
    have hb : (back1 a n).val = n.val * 3 + 2 := rfl
    intro b
    match b with
    | ⟨0, _⟩ => show cc1_transform_5 (grid1.coords (back1 a n)) (0 : Fin 3) * 1 ≤ n.val ∧ n.val < cc1_transform_5 (grid1.coords (back1 a n)) (0 : Fin 3) * 1 + 1; rw [e.1]; omega
    | ⟨1, _⟩ => show cc1_transform_5 (grid1.coords (back1 a n)) (1 : Fin 3) * 1024 ≤ r.val ∧ r.val < cc1_transform_5 (grid1.coords (back1 a n)) (1 : Fin 3) * 1024 + 1024; rw [e.2.1]; omega
    | ⟨2, _⟩ => show cc1_transform_5 (grid1.coords (back1 a n)) (2 : Fin 3) * 384 ≤ 384 + l.val ∧ 384 + l.val < cc1_transform_5 (grid1.coords (back1 a n)) (2 : Fin 3) * 384 + 384; rw [e.2.2]; omega

/-- and its left half as it was. -/
theorem left1_2 (c : Dev nD) (n : Fin 4) (r : Fin 1024) (l : Fin 384) :
    (dat1 a V c).arrAt (2 : Fin 5) (cfg1 a).N (ix3 n r ⟨l.val, by omega⟩) = V c main_v13_1 (ix3 n r ⟨l.val, by omega⟩) := by
  refine ((dat1 a V c).arrAt_apply_of_forall_not_mem (2 : Fin 5) (cfg1 a).N _ (fun t _ _ hm => ?_)).trans rfl
  have hm : (ix3 n r ⟨l.val, by omega⟩ : S4x1024x768.Idx) ∈ ((View.whole main_v13_1).slice (((cfg1 a).win (2 : Fin 5)).rect t)).set := hm
  rw [View.set_slice_whole, Rect.mem_set_unit] at hm
  have h2 : cc1_transform_5 (grid1.coords t) (2 : Fin 3) * 384 ≤ l.val := (hm (2 : Fin 3)).1
  rw [(at1_5 t).2.2] at h2
  omega

/-- Joined array 3: its right half ends holding part 2 of slot `k`, -/
theorem right1_3 (ha : Names a k) (c : Dev nD) (n : Fin 4) (r : Fin 1024) (l : Fin 384) :
    (dat1 a V c).arrAt (3 : Fin 5) (cfg1 a).N (ix3 n r ⟨384 + l.val, by omega⟩) = V c main_v7 (ix4 k 2 (row1 n r) l) := by
  refine ((dat1 a V c).arrAt_apply_of_mem (3 : Fin 5) (right (fun n r l => V c main_v7 (ix4 k 2 (row1 n r) l)) ((dat1 a V c).A (3 : Fin 5)))
    (fun t hf => ?_) (cfg1 a).N (back1 a n) _ (back1 a n).isLt
    ((flush1_3 a _).trans (decide_eq_true (by show (n.val * 3 + 2) % 3 = 2; omega))) ?_).trans (right_apply _ _ _ n r l rfl rfl rfl)
  · show ((cfg1 a).win (3 : Fin 5)).cut ((cfg1 a).grid.coords t) ((dat1 a V c).after (3 : Fin 5) t) = _
    rw [after1_3]
    have e := at1_6 t
    have hf' := of_decide_eq_true ((flush1_3 a t).symm.trans hf)
    have hN := N1_lt a t
    funext j
    show _ = right (fun n r l => V c main_v7 (ix4 k 2 (row1 n r) l)) ((dat1 a V c).A (3 : Fin 5)) ((((cfg1 a).win (3 : Fin 5)).blk t).view.emb j)
    have h0 : (j 0 : Nat) < 1 := (j 0).isLt
    refine Eq.trans ?_ (right_apply _ _ _ (img a t) (j 1) (j 2) ?_ ?_ ?_).symm
    · show k1_pay4 (yb a V c (chan a 2 t)) (ix3 (j 0) (j 1) (j 2)) = _
      rw [show (j 0) = (0 : Fin 1) from Fin.ext (by show (j 0 : Nat) = 0; omega)]
      refine (pay4_apply _ (j 1) (j 2)).trans ((yb_apply V a k ha c (chan a 2 t) (j 1) (j 2)).trans ?_)
      exact congrArg (V c main_v7) (congr (congrArg₂ (ix4 k)
        (Fin.ext (by show (t.val / 3 * 3 + 2) % 3 = 2; omega))
        (congrArg (fun n => row1 n (j 1)) (Fin.ext (by show (t.val / 3 * 3 + 2) / 3 = t.val / 3; omega)))) rfl)
    · show cc1_transform_6 (grid1.coords t) (0 : Fin 3) * 1 + 1 * (j 0 : Nat) = t.val / 3; omega
    · show cc1_transform_6 (grid1.coords t) (1 : Fin 3) * 1024 + 1 * (j 1 : Nat) = (j 1 : Nat); omega
    · show cc1_transform_6 (grid1.coords t) (2 : Fin 3) * 384 + 1 * (j 2 : Nat) = 384 + (j 2 : Nat); omega
  · show _ ∈ ((View.whole main_v13_2).slice (((cfg1 a).win (3 : Fin 5)).rect _)).set
    rw [View.set_slice_whole, Rect.mem_set_unit]
    have e := at1_6 (back1 a n)
    have hb : (back1 a n).val = n.val * 3 + 2 := rfl
    intro b
    match b with
    | ⟨0, _⟩ => show cc1_transform_6 (grid1.coords (back1 a n)) (0 : Fin 3) * 1 ≤ n.val ∧ n.val < cc1_transform_6 (grid1.coords (back1 a n)) (0 : Fin 3) * 1 + 1; rw [e.1]; omega
    | ⟨1, _⟩ => show cc1_transform_6 (grid1.coords (back1 a n)) (1 : Fin 3) * 1024 ≤ r.val ∧ r.val < cc1_transform_6 (grid1.coords (back1 a n)) (1 : Fin 3) * 1024 + 1024; rw [e.2.1]; omega
    | ⟨2, _⟩ => show cc1_transform_6 (grid1.coords (back1 a n)) (2 : Fin 3) * 384 ≤ 384 + l.val ∧ 384 + l.val < cc1_transform_6 (grid1.coords (back1 a n)) (2 : Fin 3) * 384 + 384; rw [e.2.2]; omega

/-- and its left half as it was. -/
theorem left1_3 (c : Dev nD) (n : Fin 4) (r : Fin 1024) (l : Fin 384) :
    (dat1 a V c).arrAt (3 : Fin 5) (cfg1 a).N (ix3 n r ⟨l.val, by omega⟩) = V c main_v13_2 (ix3 n r ⟨l.val, by omega⟩) := by
  refine ((dat1 a V c).arrAt_apply_of_forall_not_mem (3 : Fin 5) (cfg1 a).N _ (fun t _ _ hm => ?_)).trans rfl
  have hm : (ix3 n r ⟨l.val, by omega⟩ : S4x1024x768.Idx) ∈ ((View.whole main_v13_2).slice (((cfg1 a).win (3 : Fin 5)).rect t)).set := hm
  rw [View.set_slice_whole, Rect.mem_set_unit] at hm
  have h2 : cc1_transform_6 (grid1.coords t) (2 : Fin 3) * 384 ≤ l.val := (hm (2 : Fin 3)).1
  rw [(at1_6 t).2.2] at h2
  omega

/-- The point that writes image `n` of part `j` back. -/
def back4 (n : Fin 4) (j : Fin 3) : Fin (cfg1 a).N := ⟨n.val * 3 + j.val, by have h : (cfg1 a).N = 12 := N_1; omega⟩

/-- The slot as the second region lays it out. -/
def slotRows (M : Buf (Elt F) (((0 : Dev nD) : Thread nD τ).loc main_v7)) : S3x4x1024x384.Idx → Elt F .f32 :=
  fun i => M (ix4 k (i 0) (row1 (i 1) (i 2)) (i 3))

theorem slotRows_apply (M : Buf (Elt F) (((0 : Dev nD) : Thread nD τ).loc main_v7)) (i : S3x4x1024x384.Idx) (j : Fin 3) (n : Fin 4) (r : Fin 1024) (l : Fin 384)
    (h0 : (i 0 : Nat) = j.val) (h1 : (i 1 : Nat) = n.val) (h2 : (i 2 : Nat) = r.val) (h3 : (i 3 : Nat) = l.val) :
    slotRows k M i = M (ix4 k j (row1 n r) l) :=
  congrArg M (congr (congrArg₂ (ix4 k) (Fin.ext h0) (congrArg₂ row1 (Fin.ext h1) (Fin.ext h2))) (Fin.ext h3))

/-- The gathered array ends holding slot `k`. -/
theorem gathered (ha : Names a k) (c : Dev nD) (j : Fin 3) (n : Fin 4) (r : Fin 1024) (l : Fin 384) :
    (dat1 a V c).arrAt (4 : Fin 5) (cfg1 a).N (ix4 j n r l) = V c main_v7 (ix4 k j (row1 n r) l) := by
  refine ((dat1 a V c).arrAt_apply_of_mem (4 : Fin 5) (slotRows k (V c main_v7))
    (fun t hf => ?_) (cfg1 a).N (back4 a n j) _ (back4 a n j).isLt (flush1_4 a _) ?_).trans (slotRows_apply k _ _ j n r l rfl rfl rfl rfl)
  · show ((cfg1 a).win (4 : Fin 5)).cut ((cfg1 a).grid.coords t) ((dat1 a V c).after (4 : Fin 5) t) = _
    rw [after1_4]
    have e := at1_7 t
    have hN := N1_lt a t
    funext q
    show _ = slotRows k (V c main_v7) ((((cfg1 a).win (4 : Fin 5)).blk t).view.emb q)
    have h0 : (q 0 : Nat) < 1 := (q 0).isLt
    have h1 : (q 1 : Nat) < 1 := (q 1).isLt
    refine Eq.trans ?_ (slotRows_apply k _ _ (chn a t) (img a t) (q 2) (q 3) ?_ ?_ ?_ ?_).symm
    · show k1_pay5 (yb a V c t) (ix4 (q 0) (q 1) (q 2) (q 3)) = _
      rw [show (q 0) = (0 : Fin 1) from Fin.ext (by show (q 0 : Nat) = 0; omega), show (q 1) = (0 : Fin 1) from Fin.ext (by show (q 1 : Nat) = 0; omega)]
      exact (pay5_apply _ (q 2) (q 3)).trans (yb_apply V a k ha c t (q 2) (q 3))
    · show cc1_transform_7 (grid1.coords t) (0 : Fin 4) * 1 + 1 * (q 0 : Nat) = t.val % 3; omega
    · show cc1_transform_7 (grid1.coords t) (1 : Fin 4) * 1 + 1 * (q 1 : Nat) = t.val / 3; omega
    · show cc1_transform_7 (grid1.coords t) (2 : Fin 4) * 1024 + 1 * (q 2 : Nat) = (q 2 : Nat); omega
    · show cc1_transform_7 (grid1.coords t) (3 : Fin 4) * 384 + 1 * (q 3 : Nat) = (q 3 : Nat); omega
  · show _ ∈ ((View.whole main_v13_3).slice (((cfg1 a).win (4 : Fin 5)).rect _)).set
    rw [View.set_slice_whole, Rect.mem_set_unit]
    have e := at1_7 (back4 a n j)
    have hb : (back4 a n j).val = n.val * 3 + j.val := rfl
    intro b
    match b with
    | ⟨0, _⟩ => show cc1_transform_7 (grid1.coords (back4 a n j)) (0 : Fin 4) * 1 ≤ j.val ∧ j.val < cc1_transform_7 (grid1.coords (back4 a n j)) (0 : Fin 4) * 1 + 1; rw [e.1]; omega
    | ⟨1, _⟩ => show cc1_transform_7 (grid1.coords (back4 a n j)) (1 : Fin 4) * 1 ≤ n.val ∧ n.val < cc1_transform_7 (grid1.coords (back4 a n j)) (1 : Fin 4) * 1 + 1; rw [e.2.1]; omega
    | ⟨2, _⟩ => show cc1_transform_7 (grid1.coords (back4 a n j)) (2 : Fin 4) * 1024 ≤ r.val ∧ r.val < cc1_transform_7 (grid1.coords (back4 a n j)) (2 : Fin 4) * 1024 + 1024; rw [e.2.2.1]; omega
    | ⟨3, _⟩ => show cc1_transform_7 (grid1.coords (back4 a n j)) (3 : Fin 4) * 384 ≤ l.val ∧ l.val < cc1_transform_7 (grid1.coords (back4 a n j)) (3 : Fin 4) * 384 + 384; rw [e.2.2.2]; omega

end Cert.Proof.K

end
-- ==== Proof.Host.lean ====
/-
  What the host's transposes and reshapes hold at an index.
-/
module

public import proofs.«01_k».proof.Proof.Blocks1

@[expose] public section

set_option maxRecDepth 16384

noncomputable section

namespace Cert.Proof.K

open Cert.KernelIdeal Cert.KernelIdeal.Gen
open Idealize.ShloMosaic Idealize.ShloMosaic.TcCoe Idealize.ShloMosaic.StableHlo

variable {F : FTy → Type} [FloatOps F]

/-- The row of a flattened feature at image `n`, height `h` and width `w`, and the row inside the image. -/
def row (n : Fin 4) (h w : Fin 32) : Fin 4096 := ⟨n.val * 1024 + h.val * 32 + w.val, by omega⟩
def pos (h w : Fin 32) : Fin 1024 := ⟨h.val * 32 + w.val, by omega⟩

theorem row1_pos (n : Fin 4) (h w : Fin 32) : row1 n (pos h w) = row n h w :=
  Fin.ext (by show n.val * 1024 + (h.val * 32 + w.val) = n.val * 1024 + h.val * 32 + w.val; omega)

/-- A feature flattened, its channels last. -/
def flat (f : Vec F S4x384x32x32 .f32) : Vec F S4096x384 .f32 :=
  shapeCast S4096x384 (transpose S4x32x32x384 [0, 2, 3, 1] f transposes_S4x384x32x32_S4x32x32x384_0_2_3_1) shapeCasts_S4x32x32x384_S4096x384

theorem flat_apply (f : Vec F S4x384x32x32 .f32) (n : Fin 4) (h w : Fin 32) (l : Fin 384) :
    flat f (ix2 (row n h w) l) = f (ix4 n l h w) := by
  pointwise [flat, row]

/-- The memory flattened, its channels last. -/
def flatM (M : Vec F S10x3x4x384x32x32 .f32) : Vec F S10x3x4096x384 .f32 :=
  shapeCast S10x3x4096x384 (transpose S10x3x4x32x32x384 [0, 1, 2, 4, 5, 3] M transposes_S10x3x4x384x32x32_S10x3x4x32x32x384_0_1_2_4_5_3) shapeCasts_S10x3x4x32x32x384_S10x3x4096x384

theorem flatM_apply (M : Vec F S10x3x4x384x32x32 .f32) (s : Fin 10) (j : Fin 3) (n : Fin 4) (h w : Fin 32) (l : Fin 384) :
    flatM M (ix4 s j (row n h w) l) = M (ix6 s j n l h w) := by
  pointwise [flatM, row]

/-- A joined array cut into images. -/
def images (x : Vec F S4096x768 .f32) : Vec F S4x1024x768 .f32 := shapeCast S4x1024x768 x shapeCasts_S4096x768_S4x1024x768

theorem images_apply (x : Vec F S4096x768 .f32) (n : Fin 4) (r : Fin 1024) (q : Fin 768) : images x (ix3 n r q) = x (ix2 (row1 n r) q) := by
  pointwise [images, row1]

/-- A joined array with its channels second again. -/
def back (y : Vec F S4x1024x768 .f32) : Vec F S4x768x32x32 .f32 :=
  transpose S4x768x32x32 [0, 3, 1, 2] (shapeCast S4x32x32x768 y shapeCasts_S4x1024x768_S4x32x32x768) transposes_S4x32x32x768_S4x768x32x32_0_3_1_2

theorem back_apply (y : Vec F S4x1024x768 .f32) (n : Fin 4) (q : Fin 768) (h w : Fin 32) : back y (ix4 n q h w) = y (ix3 n (pos h w) q) := by
  pointwise [back, pos]

/-- The gathered slot with its channels third again. -/
def backM (y : Vec F S3x4x1024x384 .f32) : Vec F S3x4x384x32x32 .f32 :=
  transpose S3x4x384x32x32 [0, 1, 4, 2, 3] (shapeCast S3x4x32x32x384 y shapeCasts_S3x4x1024x384_S3x4x32x32x384) transposes_S3x4x32x32x384_S3x4x384x32x32_0_1_4_2_3

theorem backM_apply (y : Vec F S3x4x1024x384 .f32) (j : Fin 3) (n : Fin 4) (l : Fin 384) (h w : Fin 32) :
    backM y (ix5 j n l h w) = y (ix4 j n (pos h w) l) := by
  pointwise [backM, pos]

section
variable (V : Valuation τ sig (Elt F))

theorem host0_v1 : after hostOps0 V (main_v1 : DevRef τ sig) = flat (V (main_arg0 : DevRef τ sig)) := by
  after_results
  rfl
theorem host0_v3 : after hostOps0 V (main_v3 : DevRef τ sig) = flat (V (main_arg1 : DevRef τ sig)) := by
  after_results
  rfl
theorem host0_v5 : after hostOps0 V (main_v5 : DevRef τ sig) = flat (V (main_arg2 : DevRef τ sig)) := by
  after_results
  rfl
theorem host0_v7 : after hostOps0 V (main_v7 : DevRef τ sig) = flatM (V (main_arg3 : DevRef τ sig)) := by
  after_results
  rfl
theorem host1_v13_0 : after hostOps1 V (main_v13_0 : DevRef τ sig) = images (V (main_v8_1 : DevRef τ sig)) := by
  after_results
  rfl
theorem host1_v13_1 : after hostOps1 V (main_v13_1 : DevRef τ sig) = images (V (main_v8_2 : DevRef τ sig)) := by
  after_results
  rfl
theorem host1_v13_2 : after hostOps1 V (main_v13_2 : DevRef τ sig) = images (V (main_v8_3 : DevRef τ sig)) := by
  after_results
  rfl
theorem host2_v17 : after hostOps2 V (main_v17 : DevRef τ sig) = back (V (main_v13_0 : DevRef τ sig)) := by
  after_results
  rfl
theorem host2_v19 : after hostOps2 V (main_v19 : DevRef τ sig) = back (V (main_v13_1 : DevRef τ sig)) := by
  after_results
  rfl
theorem host2_v21 : after hostOps2 V (main_v21 : DevRef τ sig) = back (V (main_v13_2 : DevRef τ sig)) := by
  after_results
  rfl
theorem host2_v15 : after hostOps2 V (main_v15 : DevRef τ sig) = backM (V (main_v13_3 : DevRef τ sig)) := by
  after_results
  rfl

end

variable (m : (ℓ : Loc nD τ sig) → Buf (Elt F) ℓ)

theorem B1_v1 (c : Dev nD) : B1 m c main_v1 = flat (m ((c.tc : Thread nD τ).loc main_arg0)) := by
  show U1 m c (main_v1 : DevRef τ sig) = _
  unfold U1
  rw [host0_v1]
theorem B1_v3 (c : Dev nD) : B1 m c main_v3 = flat (m ((c.tc : Thread nD τ).loc main_arg1)) := by
  show U1 m c (main_v3 : DevRef τ sig) = _
  unfold U1
  rw [host0_v3]
theorem B1_v5 (c : Dev nD) : B1 m c main_v5 = flat (m ((c.tc : Thread nD τ).loc main_arg2)) := by
  show U1 m c (main_v5 : DevRef τ sig) = _
  unfold U1
  rw [host0_v5]
theorem B1_v7 (c : Dev nD) : B1 m c main_v7 = flatM (m ((c.tc : Thread nD τ).loc main_arg3)) := by
  show U1 m c (main_v7 : DevRef τ sig) = _
  unfold U1
  rw [host0_v7]
theorem B3_v7 (c : Dev nD) : B3 m c main_v7 = flatM (m ((c.tc : Thread nD τ).loc main_arg3)) :=
  (U3_of m c main_v7 (by decide)).trans ((U2_of m c main_v7 (by decide)).trans (B1_v7 m c))
theorem B3_v13_0 (c : Dev nD) (n : Fin 4) (h w : Fin 32) (l : Fin 384) :
    (B3 m c main_v13_0 : S4x1024x768.Idx → Elt F .f32) (ix3 n (pos h w) ⟨l.val, by omega⟩) = m ((c.tc : Thread nD τ).loc main_arg0) (ix4 n l h w) := by
  show U3 m c (main_v13_0 : DevRef τ sig) _ = _
  unfold U3
  rw [host1_v13_0, images_apply, U2_v8_1, row1_pos, half5, B1_v1, flat_apply]
theorem B3_v13_1 (c : Dev nD) (n : Fin 4) (h w : Fin 32) (l : Fin 384) :
    (B3 m c main_v13_1 : S4x1024x768.Idx → Elt F .f32) (ix3 n (pos h w) ⟨l.val, by omega⟩) = m ((c.tc : Thread nD τ).loc main_arg1) (ix4 n l h w) := by
  show U3 m c (main_v13_1 : DevRef τ sig) _ = _
  unfold U3
  rw [host1_v13_1, images_apply, U2_v8_2, row1_pos, half6, B1_v3, flat_apply]
theorem B3_v13_2 (c : Dev nD) (n : Fin 4) (h w : Fin 32) (l : Fin 384) :
    (B3 m c main_v13_2 : S4x1024x768.Idx → Elt F .f32) (ix3 n (pos h w) ⟨l.val, by omega⟩) = m ((c.tc : Thread nD τ).loc main_arg2) (ix4 n l h w) := by
  show U3 m c (main_v13_2 : DevRef τ sig) _ = _
  unfold U3
  rw [host1_v13_2, images_apply, U2_v8_3, row1_pos, half7, B1_v5, flat_apply]

/-! ### The results at an index, given the slot the table names -/

variable (hok : ok1 (tab m)) (k : Fin 10)

theorem out3 (ha : Names (adm1 m hok) k) (c : Dev nD) (j : Fin 3) (n : Fin 4) (l : Fin 384) (h w : Fin 32) :
    (U5 m hok c (main_v15 : DevRef τ sig) : S3x4x384x32x32.Idx → Elt F .f32) (ix5 j n l h w) = m ((c.tc : Thread nD τ).loc main_arg3) (ix6 k j n l h w) := by
  unfold U5
  rw [host2_v15, backM_apply, U4_v13_3]
  refine (gathered (B3 m) (adm1 m hok) k ha c j n (pos h w) l).trans ?_
  rw [row1_pos, B3_v7, flatM_apply]

theorem out0_left (c : Dev nD) (n : Fin 4) (l : Fin 384) (h w : Fin 32) :
    (U5 m hok c (main_v17 : DevRef τ sig) : S4x768x32x32.Idx → Elt F .f32) (ix4 n ⟨l.val, by omega⟩ h w) = m ((c.tc : Thread nD τ).loc main_arg0) (ix4 n l h w) := by
  unfold U5
  rw [host2_v17, back_apply, U4_v13_0]
  exact (left1_1 (B3 m) (adm1 m hok) c n (pos h w) l).trans (B3_v13_0 m c n h w l)
theorem out0_right (ha : Names (adm1 m hok) k) (c : Dev nD) (n : Fin 4) (l : Fin 384) (h w : Fin 32) :
    (U5 m hok c (main_v17 : DevRef τ sig) : S4x768x32x32.Idx → Elt F .f32) (ix4 n ⟨384 + l.val, by omega⟩ h w) = m ((c.tc : Thread nD τ).loc main_arg3) (ix6 k 0 n l h w) := by
  unfold U5
  rw [host2_v17, back_apply, U4_v13_0]
  refine (right1_1 (B3 m) (adm1 m hok) k ha c n (pos h w) l).trans ?_
  rw [row1_pos, B3_v7, flatM_apply]

theorem out1_left (c : Dev nD) (n : Fin 4) (l : Fin 384) (h w : Fin 32) :
    (U5 m hok c (main_v19 : DevRef τ sig) : S4x768x32x32.Idx → Elt F .f32) (ix4 n ⟨l.val, by omega⟩ h w) = m ((c.tc : Thread nD τ).loc main_arg1) (ix4 n l h w) := by
  unfold U5
  rw [host2_v19, back_apply, U4_v13_1]
  exact (left1_2 (B3 m) (adm1 m hok) c n (pos h w) l).trans (B3_v13_1 m c n h w l)
theorem out1_right (ha : Names (adm1 m hok) k) (c : Dev nD) (n : Fin 4) (l : Fin 384) (h w : Fin 32) :
    (U5 m hok c (main_v19 : DevRef τ sig) : S4x768x32x32.Idx → Elt F .f32) (ix4 n ⟨384 + l.val, by omega⟩ h w) = m ((c.tc : Thread nD τ).loc main_arg3) (ix6 k 1 n l h w) := by
  unfold U5
  rw [host2_v19, back_apply, U4_v13_1]
  refine (right1_2 (B3 m) (adm1 m hok) k ha c n (pos h w) l).trans ?_
  rw [row1_pos, B3_v7, flatM_apply]

theorem out2_left (c : Dev nD) (n : Fin 4) (l : Fin 384) (h w : Fin 32) :
    (U5 m hok c (main_v21 : DevRef τ sig) : S4x768x32x32.Idx → Elt F .f32) (ix4 n ⟨l.val, by omega⟩ h w) = m ((c.tc : Thread nD τ).loc main_arg2) (ix4 n l h w) := by
  unfold U5
  rw [host2_v21, back_apply, U4_v13_2]
  exact (left1_3 (B3 m) (adm1 m hok) c n (pos h w) l).trans (B3_v13_2 m c n h w l)
theorem out2_right (ha : Names (adm1 m hok) k) (c : Dev nD) (n : Fin 4) (l : Fin 384) (h w : Fin 32) :
    (U5 m hok c (main_v21 : DevRef τ sig) : S4x768x32x32.Idx → Elt F .f32) (ix4 n ⟨384 + l.val, by omega⟩ h w) = m ((c.tc : Thread nD τ).loc main_arg3) (ix6 k 2 n l h w) := by
  unfold U5
  rw [host2_v21, back_apply, U4_v13_2]
  refine (right1_3 (B3 m) (adm1 m hok) k ha c n (pos h w) l).trans ?_
  rw [row1_pos, B3_v7, flatM_apply]

end Cert.Proof.K

end
-- ==== Proof.Acc.lean ====
/-
  The accumulator after all the points: each row the two sums of squared differences of its slot.
-/
module

public import proofs.«01_k».proof.Proof.Host

@[expose] public section

set_option maxRecDepth 16384

noncomputable section

namespace Cert.Proof.K

open Cert.KernelIdeal Cert.KernelIdeal.Gen
open Idealize.ShloMosaic Idealize.ShloMosaic.TcCoe

/-- The row of the accumulator that holds table `j`'s sums for slot `s`. -/
def line (j : Fin 3) (s : Fin 10) : Fin 32 := ⟨10 * j.val + s.val, by omega⟩

theorem putRow_apply (A : Vec Ideal S32x1x384 .f32) (o : ℕ) (v : Vec Ideal S1x1x384 .f32) (q : Fin 32) (l : Fin 384) :
    putRow A o v (ix3 q 0 l) = if q.val = o then v (ix3 0 0 l) else A (ix3 q 0 l) := by
  show (if h : _ then v _ else A (ix3 q 0 l)) = _
  by_cases e : q.val = o
  · rw [if_pos e, dif_pos (fun a => ?_)]
    · refine congrArg v (funext fun a => Fin.ext ?_)
      match a with
      | ⟨0, _⟩ => show q.val - o = 0; omega
      | ⟨1, _⟩ => rfl
      | ⟨2, _⟩ => show l.val - 0 = l.val; omega
    · match a with
      | ⟨0, _⟩ => show o ≤ q.val ∧ q.val < o + 1; omega
      | ⟨1, _⟩ => show 0 ≤ 0 ∧ 0 < 0 + 1; omega
      | ⟨2, _⟩ => show 0 ≤ l.val ∧ l.val < 0 + 384; omega
  · rw [if_neg e, dif_neg]
    intro h
    have h0 : o ≤ q.val ∧ q.val < o + 1 := h 0
    omega

theorem getRow_apply (A : Vec Ideal S32x1x384 .f32) (i : grid0.Coords) (j : Fin 3) (s : Fin 10) (hs : (i 1).val = s.val) (l : Fin 384) :
    getRow A i j (ix3 0 0 l) = A (ix3 (line j s) 0 l) := by
  refine congrArg A (funext fun a => Fin.ext ?_)
  match a with
  | ⟨0, _⟩ => show 10 * j.val + (i 1).val + 1 * 0 = 10 * j.val + s.val; omega
  | ⟨1, _⟩ => rfl
  | ⟨2, _⟩ => show 0 + 1 * l.val = l.val; omega

theorem table0_apply (x : Vec Ideal S1x3x2048x384 .f32) (r : Fin 2048) (l : Fin 384) :
    VecWindow.window x ![0, 0, 0, 0] S1x1x2048x384.size inb_S1x3x2048x384_S1x1x2048x384_0_0_0_0 (ix4 0 0 r l) = x (ix4 0 0 r l) := by
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * l.val = l.val; omega

theorem table1_apply (x : Vec Ideal S1x3x2048x384 .f32) (r : Fin 2048) (l : Fin 384) :
    VecWindow.window x ![0, 1, 0, 0] S1x1x2048x384.size inb_S1x3x2048x384_S1x1x2048x384_0_1_0_0 (ix4 0 0 r l) = x (ix4 0 1 r l) := by
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * l.val = l.val; omega

theorem table2_apply (x : Vec Ideal S1x3x2048x384 .f32) (r : Fin 2048) (l : Fin 384) :
    VecWindow.window x ![0, 2, 0, 0] S1x1x2048x384.size inb_S1x3x2048x384_S1x1x2048x384_0_2_0_0 (ix4 0 0 r l) = x (ix4 0 2 r l) := by
  refine congrArg x (funext fun a => Fin.ext ?_)
  match a with
  | ⟨0, _⟩ => rfl
  | ⟨1, _⟩ => rfl
  | ⟨2, _⟩ => show 0 + 1 * r.val = r.val; omega
  | ⟨3, _⟩ => show 0 + 1 * l.val = l.val; omega

theorem sums0_apply (x : Vec Ideal S1x1x2048x384 .f32) (y : Vec Ideal S2048x384 .f32) (z : Vec Ideal S1x1x384 .f32) (l : Fin 384) :
    k0_pay9 x y z (ix3 0 0 l) = z (ix3 0 0 l) + ∑ r : Fin 2048, (x (ix4 0 0 r l) - y (ix2 r l)) * (x (ix4 0 0 r l) - y (ix2 r l)) := by
  pointwise [k0_pay9, k0_pay8]
theorem sums1_apply (x : Vec Ideal S1x1x2048x384 .f32) (y : Vec Ideal S2048x384 .f32) (z : Vec Ideal S1x1x384 .f32) (l : Fin 384) :
    k0_pay1 k0_pay8 (k0_pay10 x y) z (ix3 0 0 l) = z (ix3 0 0 l) + ∑ r : Fin 2048, (x (ix4 0 0 r l) - y (ix2 r l)) * (x (ix4 0 0 r l) - y (ix2 r l)) := by
  pointwise [k0_pay1, k0_pay10, k0_pay8]
theorem sums2_apply (x : Vec Ideal S1x1x2048x384 .f32) (y : Vec Ideal S2048x384 .f32) (z : Vec Ideal S1x1x384 .f32) (l : Fin 384) :
    k0_pay2 k0_pay8 x y z (ix3 0 0 l) = z (ix3 0 0 l) + ∑ r : Fin 2048, (x (ix4 0 0 r l) - y (ix2 r l)) * (x (ix4 0 0 r l) - y (ix2 r l)) := by
  pointwise [k0_pay2, k0_pay8]

/-- What a block adds to a column of table `j`'s sums. -/
def gain (x : Vec Ideal S1x3x2048x384 .f32) (y : Vec Ideal S2048x384 .f32) (j : Fin 3) (l : Fin 384) : EReal :=
  ∑ r : Fin 2048, (x (ix4 0 j r l) - y (ix2 r l)) * (x (ix4 0 j r l) - y (ix2 r l))

section
variable (i : grid0.Coords) (x0 x1 x2 : Vec Ideal S2048x384 .f32) (x3 : Vec Ideal S1x3x2048x384 .f32) (A : Vec Ideal S32x1x384 .f32)
  (s : Fin 10) (l : Fin 384)

/-- One point's step, at a row of each table. -/
theorem step0 : stepAcc i x0 x1 x2 x3 A (ix3 (line 0 s) 0 l) = A (ix3 (line 0 s) 0 l) + if (i 1).val = s.val then gain x3 x0 0 l else 0 := by
  have h1 : (i 1).val < 10 := (i 1).isLt
  have hs := s.isLt
  unfold stepAcc
  rw [putRow_apply, if_neg (by show ¬(10 * 0 + s.val = 10 * 2 + (i 1).val); omega),
    putRow_apply, if_neg (by show ¬(10 * 0 + s.val = 10 * 1 + (i 1).val); omega), putRow_apply]
  by_cases e : (i 1).val = s.val
  · rw [if_pos e, if_pos (by show 10 * 0 + s.val = 10 * 0 + (i 1).val; omega)]
    refine (sums0_apply _ _ _ l).trans (congrArg₂ (· + ·) (getRow_apply A i 0 s e l) (Finset.sum_congr rfl fun r _ => ?_))
    rw [table0_apply]
  · rw [if_neg e, if_neg (by show ¬(10 * 0 + s.val = 10 * 0 + (i 1).val); omega), add_zero]

theorem step1 : stepAcc i x0 x1 x2 x3 A (ix3 (line 1 s) 0 l) = A (ix3 (line 1 s) 0 l) + if (i 1).val = s.val then gain x3 x1 1 l else 0 := by
  have h1 : (i 1).val < 10 := (i 1).isLt
  have hs := s.isLt
  unfold stepAcc
  rw [putRow_apply, if_neg (by show ¬(10 * 1 + s.val = 10 * 2 + (i 1).val); omega), putRow_apply]
  by_cases e : (i 1).val = s.val
  · rw [if_pos e, if_pos (by show 10 * 1 + s.val = 10 * 1 + (i 1).val; omega)]
    refine (sums1_apply _ _ _ l).trans (congrArg₂ (· + ·) (getRow_apply A i 1 s e l) (Finset.sum_congr rfl fun r _ => ?_))
    rw [table1_apply]
  · rw [if_neg e, if_neg (by show ¬(10 * 1 + s.val = 10 * 1 + (i 1).val); omega),
      putRow_apply, if_neg (by show ¬(10 * 1 + s.val = 10 * 0 + (i 1).val); omega), add_zero]

theorem step2 : stepAcc i x0 x1 x2 x3 A (ix3 (line 2 s) 0 l) = A (ix3 (line 2 s) 0 l) + if (i 1).val = s.val then gain x3 x2 2 l else 0 := by
  have h1 : (i 1).val < 10 := (i 1).isLt
  have hs := s.isLt
  unfold stepAcc
  rw [putRow_apply]
  by_cases e : (i 1).val = s.val
  · rw [if_pos e, if_pos (by show 10 * 2 + s.val = 10 * 2 + (i 1).val; omega)]
    refine (sums2_apply _ _ _ l).trans (congrArg₂ (· + ·) (getRow_apply A i 2 s e l) (Finset.sum_congr rfl fun r _ => ?_))
    rw [table2_apply]
  · rw [if_neg e, if_neg (by show ¬(10 * 2 + s.val = 10 * 2 + (i 1).val); omega),
      putRow_apply, if_neg (by show ¬(10 * 2 + s.val = 10 * 1 + (i 1).val); omega),
      putRow_apply, if_neg (by show ¬(10 * 2 + s.val = 10 * 0 + (i 1).val); omega), add_zero]

end

theorem slotOf : ∀ t : Fin cfg0.N, ((cfg0.grid.coords t) 1).val = t.val % 10 :=
  (by decide +kernel : ∀ t : Fin grid0.N, ((grid0.coords t) 1).val = t.val % 10)

/-- A quantity that starts at nothing and gains `g t` at each of twenty points `t` of one slot ends at the two gains. -/
theorem two_gains (a : ℕ → EReal) (g : Fin 20 → EReal) (s : Fin 10) (h0 : a 0 = 0)
    (hs : ∀ t : Fin 20, a (t.val + 1) = a t.val + if t.val % 10 = s.val then g t else 0) :
    a 20 = g ⟨s.val, by omega⟩ + g ⟨10 + s.val, by omega⟩ := by
  have hn : ∀ n, ∀ hn : n ≤ 20, a n = ∑ t : Fin n, if t.val % 10 = s.val then g ⟨t.val, by omega⟩ else 0 := by
    intro n
    induction n with
    | zero => intro _; rw [h0]; rfl
    | succ n ih =>
      intro hn
      rw [hs ⟨n, by omega⟩, Fin.sum_univ_castSucc]
      exact congrArg₂ (· + ·) (ih (by omega)) rfl
  rw [hn 20 le_rfl, Fin.sum_univ_add (a := 10) (b := 10) (f := fun t : Fin 20 => if t.val % 10 = s.val then g ⟨t.val, by omega⟩ else 0)]
  refine congrArg₂ (· + ·) ?_ ?_
  · rw [Finset.sum_eq_single s]
    · exact if_pos (by show s.val % 10 = s.val; omega)
    · intro b _ hb
      exact if_neg (fun e => hb (Fin.ext (by have e : b.val % 10 = s.val := e; omega)))
    · exact fun h => absurd (Finset.mem_univ s) h
  · rw [Finset.sum_eq_single s]
    · exact if_pos (by show (10 + s.val) % 10 = s.val; omega)
    · intro b _ hb
      exact if_neg (fun e => hb (Fin.ext (by have e : (10 + b.val) % 10 = s.val := e; omega)))
    · exact fun h => absurd (Finset.mem_univ s) h

section
variable (V : (c : Dev nD) → (b : Ref sig .tc) → Buf (Elt Ideal) ((c : Thread nD τ).loc b)) (c : Dev nD)

/-- A point by its number. -/
def pt0 (t : Fin 20) : Fin cfg0.N := ⟨t.val, by have h : cfg0.N = 20 := N_0; omega⟩

theorem zeros_apply (q : Fin 32) (l : Fin 384) : accN V c 0 (ix3 q 0 l) = 0 := by
  rw [accN]
  pointwise [k0_pay4]

theorem accum0 (s : Fin 10) (l : Fin 384) : accN V c 20 (ix3 (line 0 s) 0 l)
    = gain (x3 V c (pt0 ⟨s.val, by omega⟩)) (x0 V c (pt0 ⟨s.val, by omega⟩)) 0 l
      + gain (x3 V c (pt0 ⟨10 + s.val, by omega⟩)) (x0 V c (pt0 ⟨10 + s.val, by omega⟩)) 0 l :=
  two_gains (fun n => accN V c n (ix3 (line 0 s) 0 l)) (fun t => gain (x3 V c (pt0 t)) (x0 V c (pt0 t)) 0 l) s (zeros_apply V c _ l) fun t => by
    have h := (congrFun (accN_succ V c (pt0 t)) _).trans (step0 (cfg0.grid.coords (pt0 t)) _ _ _ _ (accN V c (pt0 t).val) s l)
    rw [slotOf (pt0 t)] at h
    exact h

theorem accum1 (s : Fin 10) (l : Fin 384) : accN V c 20 (ix3 (line 1 s) 0 l)
    = gain (x3 V c (pt0 ⟨s.val, by omega⟩)) (x1 V c (pt0 ⟨s.val, by omega⟩)) 1 l
      + gain (x3 V c (pt0 ⟨10 + s.val, by omega⟩)) (x1 V c (pt0 ⟨10 + s.val, by omega⟩)) 1 l :=
  two_gains (fun n => accN V c n (ix3 (line 1 s) 0 l)) (fun t => gain (x3 V c (pt0 t)) (x1 V c (pt0 t)) 1 l) s (zeros_apply V c _ l) fun t => by
    have h := (congrFun (accN_succ V c (pt0 t)) _).trans (step1 (cfg0.grid.coords (pt0 t)) _ _ _ _ (accN V c (pt0 t).val) s l)
    rw [slotOf (pt0 t)] at h
    exact h

theorem accum2 (s : Fin 10) (l : Fin 384) : accN V c 20 (ix3 (line 2 s) 0 l)
    = gain (x3 V c (pt0 ⟨s.val, by omega⟩)) (x2 V c (pt0 ⟨s.val, by omega⟩)) 2 l
      + gain (x3 V c (pt0 ⟨10 + s.val, by omega⟩)) (x2 V c (pt0 ⟨10 + s.val, by omega⟩)) 2 l :=
  two_gains (fun n => accN V c n (ix3 (line 2 s) 0 l)) (fun t => gain (x3 V c (pt0 t)) (x2 V c (pt0 t)) 2 l) s (zeros_apply V c _ l) fun t => by
    have h := (congrFun (accN_succ V c (pt0 t)) _).trans (step2 (cfg0.grid.coords (pt0 t)) _ _ _ _ (accN V c (pt0 t).val) s l)
    rw [slotOf (pt0 t)] at h
    exact h

end

end Cert.Proof.K

end
-- ==== Proof.RefRun.lean ====
/-
  The run of the reference program: its operations in order, in four stretches, and what each stretch leaves in the
  buffers that the next one reads.
-/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-- The distances of the three features to the ten slots, added. -/
abbrev opsDist : List (HloOp τ sig (Elt F)) :=
  [ unary main_arg3 main_v0 (extractStridedSlice S10x1x4x384x32x32 ![0, 0, 0, 0, 0, 0] · slices_S10x3x4x384x32x32_S10x1x4x384x32x32_0_0_0_0_0_0),
    reshape main_v0 main_v1 (rfl : (.f32 : EltTy) = .f32) shapeCasts_S10x1x4x384x32x32_S10x4x384x32x32,
    unary main_arg0 main_v2 (broadcastInDim S1x4x384x32x32 ![1, 2, 3, 4] bcast_S4x384x32x32_S1x4x384x32x32_1_2_3_4),
    unary main_v2 main_v3 (broadcastInDim S10x4x384x32x32 ![0, 1, 2, 3, 4] bcast_S1x4x384x32x32_S10x4x384x32x32_0_1_2_3_4),
    binary main_v3 main_v1 main_v4 subf,
    binary main_v4 main_v4 main_v5 mulf,
    nullary main_cst (constant S_ .f32 0x00000000#32),
    binary main_v5 main_cst main_v6 (fun x v => Host.reduceAdd x v reducesTo_S10x4x384x32x32_S10_d1_2_3_4 h_S_),
    unary main_v6 main_v7 Host.sqrt,
    unary main_arg3 main_v8 (extractStridedSlice S10x1x4x384x32x32 ![0, 1, 0, 0, 0, 0] · slices_S10x3x4x384x32x32_S10x1x4x384x32x32_0_1_0_0_0_0),
    reshape main_v8 main_v9 (rfl : (.f32 : EltTy) = .f32) shapeCasts_S10x1x4x384x32x32_S10x4x384x32x32,
    unary main_arg1 main_v10 (broadcastInDim S1x4x384x32x32 ![1, 2, 3, 4] bcast_S4x384x32x32_S1x4x384x32x32_1_2_3_4),
    unary main_v10 main_v11 (broadcastInDim S10x4x384x32x32 ![0, 1, 2, 3, 4] bcast_S1x4x384x32x32_S10x4x384x32x32_0_1_2_3_4),
    binary main_v11 main_v9 main_v12 subf,
    binary main_v12 main_v12 main_v13 mulf,
    nullary main_cst_0 (constant S_ .f32 0x00000000#32),
    binary main_v13 main_cst_0 main_v14 (fun x v => Host.reduceAdd x v reducesTo_S10x4x384x32x32_S10_d1_2_3_4 h_S_),
    unary main_v14 main_v15 Host.sqrt,
    binary main_v7 main_v15 main_v16 addf,
    unary main_arg3 main_v17 (extractStridedSlice S10x1x4x384x32x32 ![0, 2, 0, 0, 0, 0] · slices_S10x3x4x384x32x32_S10x1x4x384x32x32_0_2_0_0_0_0),
    reshape main_v17 main_v18 (rfl : (.f32 : EltTy) = .f32) shapeCasts_S10x1x4x384x32x32_S10x4x384x32x32,
    unary main_arg2 main_v19 (broadcastInDim S1x4x384x32x32 ![1, 2, 3, 4] bcast_S4x384x32x32_S1x4x384x32x32_1_2_3_4),
    unary main_v19 main_v20 (broadcastInDim S10x4x384x32x32 ![0, 1, 2, 3, 4] bcast_S1x4x384x32x32_S10x4x384x32x32_0_1_2_3_4),
    binary main_v20 main_v18 main_v21 subf,
    binary main_v21 main_v21 main_v22 mulf,
    nullary main_cst_1 (constant S_ .f32 0x00000000#32),
    binary main_v22 main_cst_1 main_v23 (fun x v => Host.reduceAdd x v reducesTo_S10x4x384x32x32_S10_d1_2_3_4 h_S_),
    unary main_v23 main_v24 Host.sqrt,
    binary main_v16 main_v24 main_v25 addf ]

/-- The position of the least distance. -/
abbrev opsArg : List (HloOp τ sig (Elt F)) :=
  [ TRef.nullary main_call0.v0 (iotaInDim S10 32 0),
    TRef.nullary main_call0.cst (constant S_ .f32 0x7F800000#32),
    TRef.nullary main_call0.c (constantI S_ 32 0#32),
    TRef.quaternary (.of main_v25) main_call0.v0 main_call0.cst main_call0.c main_call0.v1_0 (fun x y u v j => (Host.argReduce reducer_argmin_f32_i32 x y u v reducesTo_S10_S_d0 h_S_ j).1),
    TRef.quaternary (.of main_v25) main_call0.v0 main_call0.cst main_call0.c main_call0.v1_1 (fun x y u v j => (Host.argReduce reducer_argmin_f32_i32 x y u v reducesTo_S10_S_d0 h_S_ j).2) ]

/-- The start of the selected slot along each axis of the memory. -/
abbrev opsIdx : List (HloOp τ sig (Elt F)) :=
  [ nullary main_c (constantI S_ 32 0#32),
    binary main_v26 main_c main_v27 (cmpi .slt),
    nullary main_c_2 (constantI S_ 32 10#32),
    binary main_v26 main_c_2 main_v28 addi,
    ternary main_v27 main_v28 main_v26 main_v29 select,
    nullary main_c_3 (constantI S_ 32 0#32),
    nullary main_c_4 (constantI S_ 32 0#32),
    binary main_c_3 main_c_4 main_v30 (cmpi .slt),
    nullary main_c_5 (constantI S_ 32 0#32),
    nullary main_c_6 (constantI S_ 32 3#32),
    binary main_c_5 main_c_6 main_v31 addi,
    nullary main_c_7 (constantI S_ 32 0#32),
    ternary main_v30 main_v31 main_c_7 main_v32 select,
    nullary main_c_8 (constantI S_ 32 0#32),
    nullary main_c_9 (constantI S_ 32 0#32),
    binary main_c_8 main_c_9 main_v33 (cmpi .slt),
    nullary main_c_10 (constantI S_ 32 0#32),
    nullary main_c_11 (constantI S_ 32 4#32),
    binary main_c_10 main_c_11 main_v34 addi,
    nullary main_c_12 (constantI S_ 32 0#32),
    ternary main_v33 main_v34 main_c_12 main_v35 select,
    nullary main_c_13 (constantI S_ 32 0#32),
    nullary main_c_14 (constantI S_ 32 0#32),
    binary main_c_13 main_c_14 main_v36 (cmpi .slt),
    nullary main_c_15 (constantI S_ 32 0#32),
    nullary main_c_16 (constantI S_ 32 384#32),
    binary main_c_15 main_c_16 main_v37 addi,
    nullary main_c_17 (constantI S_ 32 0#32),
    ternary main_v36 main_v37 main_c_17 main_v38 select,
    nullary main_c_18 (constantI S_ 32 0#32),
    nullary main_c_19 (constantI S_ 32 0#32),
    binary main_c_18 main_c_19 main_v39 (cmpi .slt),
    nullary main_c_20 (constantI S_ 32 0#32),
    nullary main_c_21 (constantI S_ 32 32#32),
    binary main_c_20 main_c_21 main_v40 addi,
    nullary main_c_22 (constantI S_ 32 0#32),
    ternary main_v39 main_v40 main_c_22 main_v41 select,
    nullary main_c_23 (constantI S_ 32 0#32),
    nullary main_c_24 (constantI S_ 32 0#32),
    binary main_c_23 main_c_24 main_v42 (cmpi .slt),
    nullary main_c_25 (constantI S_ 32 0#32),
    nullary main_c_26 (constantI S_ 32 32#32),
    binary main_c_25 main_c_26 main_v43 addi,
    nullary main_c_27 (constantI S_ 32 0#32),
    ternary main_v42 main_v43 main_c_27 main_v44 select ]

/-- The selected slot. -/
abbrev opsTake : List (HloOp τ sig (Elt F)) :=
  [ unaryIndexed main_arg3 ![main_v29, main_v32, main_v35, main_v38, main_v41, main_v44] ⟨S_, .i32⟩ main_v45 (fun x i => Host.dynamicSlice S1x3x4x384x32x32 x (fun k => (i k (Shape.Idx.first h_S_)).toInt) sliceFits_S10x3x4x384x32x32_S1x3x4x384x32x32) ]

/-- Each feature joined to its part of the slot. -/
abbrev opsRes : List (HloOp τ sig (Elt F)) :=
  [ reshape main_v45 main_v46 (rfl : (.f32 : EltTy) = .f32) shapeCasts_S1x3x4x384x32x32_S3x4x384x32x32,
    unary main_v46 main_v47 (extractStridedSlice S1x4x384x32x32 ![0, 0, 0, 0, 0] · slices_S3x4x384x32x32_S1x4x384x32x32_0_0_0_0_0),
    reshape main_v47 main_v48 (rfl : (.f32 : EltTy) = .f32) shapeCasts_S1x4x384x32x32_S4x384x32x32,
    binary main_arg0 main_v48 main_v49 (fun a b => concatenate S4x768x32x32 1 [⟨S4x384x32x32, a⟩, ⟨S4x384x32x32, b⟩] concatenates_S4x384x32x32_S4x384x32x32_S4x768x32x32_d1),
    unary main_v46 main_v50 (extractStridedSlice S1x4x384x32x32 ![1, 0, 0, 0, 0] · slices_S3x4x384x32x32_S1x4x384x32x32_1_0_0_0_0),
    reshape main_v50 main_v51 (rfl : (.f32 : EltTy) = .f32) shapeCasts_S1x4x384x32x32_S4x384x32x32,
    binary main_arg1 main_v51 main_v52 (fun a b => concatenate S4x768x32x32 1 [⟨S4x384x32x32, a⟩, ⟨S4x384x32x32, b⟩] concatenates_S4x384x32x32_S4x384x32x32_S4x768x32x32_d1),
    unary main_v46 main_v53 (extractStridedSlice S1x4x384x32x32 ![2, 0, 0, 0, 0] · slices_S3x4x384x32x32_S1x4x384x32x32_2_0_0_0_0),
    reshape main_v53 main_v54 (rfl : (.f32 : EltTy) = .f32) shapeCasts_S1x4x384x32x32_S4x384x32x32,
    binary main_arg2 main_v54 main_v55 (fun a b => concatenate S4x768x32x32 1 [⟨S4x384x32x32, a⟩, ⟨S4x384x32x32, b⟩] concatenates_S4x384x32x32_S4x384x32x32_S4x768x32x32_d1) ]

/-- All the operations of the program. -/
abbrev ops : List (HloOp τ sig (Elt F)) := opsDist ++ (opsArg ++ (opsIdx ++ (opsTake ++ opsRes)))

set_option maxHeartbeats 4000000 in
/-- The program is the line of its operations. -/
theorem main_eq (c : Dev nD) : main (F := F) c = seq ops := rfl

/-- The distance of a feature to each of the ten arrays of `y`. -/
def distOf (f : Vec F S4x384x32x32 .f32) (y : Vec F S10x4x384x32x32 .f32) : Vec F S10 .f32 :=
  Host.sqrt (Host.reduceAdd
    (mulf (subf (broadcastInDim S10x4x384x32x32 ![0, 1, 2, 3, 4] bcast_S1x4x384x32x32_S10x4x384x32x32_0_1_2_3_4
        (broadcastInDim S1x4x384x32x32 ![1, 2, 3, 4] bcast_S4x384x32x32_S1x4x384x32x32_1_2_3_4 f)) y)
      (subf (broadcastInDim S10x4x384x32x32 ![0, 1, 2, 3, 4] bcast_S1x4x384x32x32_S10x4x384x32x32_0_1_2_3_4
        (broadcastInDim S1x4x384x32x32 ![1, 2, 3, 4] bcast_S4x384x32x32_S1x4x384x32x32_1_2_3_4 f)) y))
    (constant S_ .f32 0x00000000#32) reducesTo_S10x4x384x32x32_S10_d1_2_3_4 h_S_)

/-- The first, second and third array of every slot. -/
def part0 (M : Vec F S10x3x4x384x32x32 .f32) : Vec F S10x4x384x32x32 .f32 :=
  shapeCast S10x4x384x32x32 (extractStridedSlice S10x1x4x384x32x32 ![0, 0, 0, 0, 0, 0] M slices_S10x3x4x384x32x32_S10x1x4x384x32x32_0_0_0_0_0_0) shapeCasts_S10x1x4x384x32x32_S10x4x384x32x32
def part1 (M : Vec F S10x3x4x384x32x32 .f32) : Vec F S10x4x384x32x32 .f32 :=
  shapeCast S10x4x384x32x32 (extractStridedSlice S10x1x4x384x32x32 ![0, 1, 0, 0, 0, 0] M slices_S10x3x4x384x32x32_S10x1x4x384x32x32_0_1_0_0_0_0) shapeCasts_S10x1x4x384x32x32_S10x4x384x32x32
def part2 (M : Vec F S10x3x4x384x32x32 .f32) : Vec F S10x4x384x32x32 .f32 :=
  shapeCast S10x4x384x32x32 (extractStridedSlice S10x1x4x384x32x32 ![0, 2, 0, 0, 0, 0] M slices_S10x3x4x384x32x32_S10x1x4x384x32x32_0_2_0_0_0_0) shapeCasts_S10x1x4x384x32x32_S10x4x384x32x32

/-- The summed distances of the features to each slot. -/
def different (f1 f2 f3 : Vec F S4x384x32x32 .f32) (M : Vec F S10x3x4x384x32x32 .f32) : Vec F S10 .f32 :=
  addf (addf (distOf f1 (part0 M)) (distOf f2 (part1 M))) (distOf f3 (part2 M))

/-- The position of the least of ten values. -/
def least (d : Vec F S10 .f32) : Vec F S_ .i32 :=
  fun j => (Host.argReduce reducer_argmin_f32_i32 d (iotaInDim S10 32 0) (constant S_ .f32 0x7F800000#32) (constantI S_ 32 0#32)
    reducesTo_S10_S_d0 h_S_ j).2

/-- An index counted from the end of an axis of `n` entries when it is negative. -/
def wrap (n : BitVec 32) (a : Vec F S_ .i32) : Vec F S_ .i32 :=
  select (cmpi .slt a (constantI S_ 32 0#32)) (addi a (constantI S_ 32 n)) a

/-- The slot of the memory at a start. -/
def slotAt (M : Vec F S10x3x4x384x32x32 .f32) (st : Fin 6 → Vec F S_ .i32) : Vec F S3x4x384x32x32 .f32 :=
  shapeCast S3x4x384x32x32 (Host.dynamicSlice S1x3x4x384x32x32 M (fun k => (st k (Shape.Idx.first h_S_)).toInt)
    sliceFits_S10x3x4x384x32x32_S1x3x4x384x32x32) shapeCasts_S1x3x4x384x32x32_S3x4x384x32x32

/-- The start of slot `a`. -/
def start (a : Vec F S_ .i32) : Fin 6 → Vec F S_ .i32 :=
  ![wrap (F := F) 10#32 a, wrap (F := F) 3#32 (constantI S_ 32 0#32), wrap (F := F) 4#32 (constantI S_ 32 0#32),
    wrap (F := F) 384#32 (constantI S_ 32 0#32), wrap (F := F) 32#32 (constantI S_ 32 0#32), wrap (F := F) 32#32 (constantI S_ 32 0#32)]

/-- A feature beside an array of the same shape, along the channels. -/
def beside (f y : Vec F S4x384x32x32 .f32) : Vec F S4x768x32x32 .f32 :=
  concatenate S4x768x32x32 1 [⟨S4x384x32x32, f⟩, ⟨S4x384x32x32, y⟩] concatenates_S4x384x32x32_S4x384x32x32_S4x768x32x32_d1

/-- The three arrays of a slot. -/
def arr0 (s : Vec F S3x4x384x32x32 .f32) : Vec F S4x384x32x32 .f32 :=
  shapeCast S4x384x32x32 (extractStridedSlice S1x4x384x32x32 ![0, 0, 0, 0, 0] s slices_S3x4x384x32x32_S1x4x384x32x32_0_0_0_0_0) shapeCasts_S1x4x384x32x32_S4x384x32x32
def arr1 (s : Vec F S3x4x384x32x32 .f32) : Vec F S4x384x32x32 .f32 :=
  shapeCast S4x384x32x32 (extractStridedSlice S1x4x384x32x32 ![1, 0, 0, 0, 0] s slices_S3x4x384x32x32_S1x4x384x32x32_1_0_0_0_0) shapeCasts_S1x4x384x32x32_S4x384x32x32
def arr2 (s : Vec F S3x4x384x32x32 .f32) : Vec F S4x384x32x32 .f32 :=
  shapeCast S4x384x32x32 (extractStridedSlice S1x4x384x32x32 ![2, 0, 0, 0, 0] s slices_S3x4x384x32x32_S1x4x384x32x32_2_0_0_0_0) shapeCasts_S1x4x384x32x32_S4x384x32x32

variable (V : Valuation τ sig (Elt F))

theorem dist_eq : after opsDist V (main_v25 : DevRef τ sig)
    = different (V (main_arg0 : DevRef τ sig)) (V (main_arg1 : DevRef τ sig)) (V (main_arg2 : DevRef τ sig)) (V (main_arg3 : DevRef τ sig)) := by
  after_results
  rfl

theorem arg_eq : after opsArg V (main_v26 : DevRef τ sig) = least (F := F) (V (main_v25 : DevRef τ sig)) := by
  after_results
  rfl

theorem idx0 : after opsIdx V (main_v29 : DevRef τ sig) = wrap (F := F) 10#32 (V (main_v26 : DevRef τ sig)) := by
  after_results
  rfl
theorem idx1 : after opsIdx V (main_v32 : DevRef τ sig) = wrap (F := F) 3#32 (constantI S_ 32 0#32) := by
  after_results
  rfl
theorem idx2 : after opsIdx V (main_v35 : DevRef τ sig) = wrap (F := F) 4#32 (constantI S_ 32 0#32) := by
  after_results
  rfl
theorem idx3 : after opsIdx V (main_v38 : DevRef τ sig) = wrap (F := F) 384#32 (constantI S_ 32 0#32) := by
  after_results
  rfl
theorem idx4 : after opsIdx V (main_v41 : DevRef τ sig) = wrap (F := F) 32#32 (constantI S_ 32 0#32) := by
  after_results
  rfl
theorem idx5 : after opsIdx V (main_v44 : DevRef τ sig) = wrap (F := F) 32#32 (constantI S_ 32 0#32) := by
  after_results
  rfl

/-- The starts that the last stretch reads. -/
def starts : Fin 6 → Vec F S_ .i32 :=
  ![V (main_v29 : DevRef τ sig), V (main_v32 : DevRef τ sig), V (main_v35 : DevRef τ sig), V (main_v38 : DevRef τ sig),
    V (main_v41 : DevRef τ sig), V (main_v44 : DevRef τ sig)]

theorem take_eq : after opsTake V (main_v45 : DevRef τ sig)
    = Host.dynamicSlice S1x3x4x384x32x32 (V (main_arg3 : DevRef τ sig)) (fun k => (starts V k (Shape.Idx.first h_S_)).toInt)
      sliceFits_S10x3x4x384x32x32_S1x3x4x384x32x32 := by
  rw [after_cons, after_nil, unaryIndexed_result]
  refine congrArg (fun q => Host.dynamicSlice S1x3x4x384x32x32 (V (main_arg3 : DevRef τ sig)) q sliceFits_S10x3x4x384x32x32_S1x3x4x384x32x32)
    (funext fun k => ?_)
  match k with
  | ⟨0, _⟩ => rfl
  | ⟨1, _⟩ => rfl
  | ⟨2, _⟩ => rfl
  | ⟨3, _⟩ => rfl
  | ⟨4, _⟩ => rfl
  | ⟨5, _⟩ => rfl

/-- The slot as an array of three. -/
def three (s : Vec F S1x3x4x384x32x32 .f32) : Vec F S3x4x384x32x32 .f32 :=
  shapeCast S3x4x384x32x32 s shapeCasts_S1x3x4x384x32x32_S3x4x384x32x32

theorem res_sel : after opsRes V (main_v46 : DevRef τ sig) = three (V (main_v45 : DevRef τ sig)) := by
  after_results
  rfl
theorem res0 : after opsRes V (main_v49 : DevRef τ sig) = beside (V (main_arg0 : DevRef τ sig)) (arr0 (three (V (main_v45 : DevRef τ sig)))) := by
  after_results
  rfl
theorem res1 : after opsRes V (main_v52 : DevRef τ sig) = beside (V (main_arg1 : DevRef τ sig)) (arr1 (three (V (main_v45 : DevRef τ sig)))) := by
  after_results
  rfl
theorem res2 : after opsRes V (main_v55 : DevRef τ sig) = beside (V (main_arg2 : DevRef τ sig)) (arr2 (three (V (main_v45 : DevRef τ sig)))) := by
  after_results
  rfl

/-- What each stretch writes. -/
theorem wDist : (opsDist (F := F)).map HloOp.writes = ([main_v0, main_v1, main_v2, main_v3, main_v4, main_v5, main_cst, main_v6, main_v7, main_v8, main_v9, main_v10, main_v11, main_v12, main_v13, main_cst_0, main_v14, main_v15, main_v16, main_v17, main_v18, main_v19, main_v20, main_v21, main_v22, main_cst_1, main_v23, main_v24, main_v25] : List (Ref sig .tc)).map fun r => {Proc.devRef (τ := τ) .tc r} := rfl
theorem wArg : (opsArg (F := F)).map HloOp.writes = ([main_call0_v0, main_call0_cst, main_call0_c, main_call0_v1_0, main_v26] : List (Ref sig .tc)).map fun r => {Proc.devRef (τ := τ) .tc r} := rfl
theorem wIdx : (opsIdx (F := F)).map HloOp.writes = ([main_c, main_v27, main_c_2, main_v28, main_v29, main_c_3, main_c_4, main_v30, main_c_5, main_c_6, main_v31, main_c_7, main_v32, main_c_8, main_c_9, main_v33, main_c_10, main_c_11, main_v34, main_c_12, main_v35, main_c_13, main_c_14, main_v36, main_c_15, main_c_16, main_v37, main_c_17, main_v38, main_c_18, main_c_19, main_v39, main_c_20, main_c_21, main_v40, main_c_22, main_v41, main_c_23, main_c_24, main_v42, main_c_25, main_c_26, main_v43, main_c_27, main_v44] : List (Ref sig .tc)).map fun r => {Proc.devRef (τ := τ) .tc r} := rfl
theorem wTake : (opsTake (F := F)).map HloOp.writes = ([main_v45] : List (Ref sig .tc)).map fun r => {Proc.devRef (τ := τ) .tc r} := rfl
theorem wRes : (opsRes (F := F)).map HloOp.writes = ([main_v46, main_v47, main_v48, main_v49, main_v50, main_v51, main_v52, main_v53, main_v54, main_v55] : List (Ref sig .tc)).map fun r => {Proc.devRef (τ := τ) .tc r} := rfl

/-- A buffer that is not a result of the program's operations before the last stretch. -/
abbrev Kept (r : Ref sig .tc) : Prop := r ∉ ([main_v0, main_v1, main_v2, main_v3, main_v4, main_v5, main_cst, main_v6, main_v7, main_v8, main_v9, main_v10, main_v11, main_v12, main_v13, main_cst_0, main_v14, main_v15, main_v16, main_v17, main_v18, main_v19, main_v20, main_v21, main_v22, main_cst_1, main_v23, main_v24, main_v25] : List (Ref sig .tc)) ∧ r ∉ ([main_call0_v0, main_call0_cst, main_call0_c, main_call0_v1_0, main_v26] : List (Ref sig .tc))
  ∧ r ∉ ([main_c, main_v27, main_c_2, main_v28, main_v29, main_c_3, main_c_4, main_v30, main_c_5, main_c_6, main_v31, main_c_7, main_v32, main_c_8, main_c_9, main_v33, main_c_10, main_c_11, main_v34, main_c_12, main_v35, main_c_13, main_c_14, main_v36, main_c_15, main_c_16, main_v37, main_c_17, main_v38, main_c_18, main_c_19, main_v39, main_c_20, main_c_21, main_v40, main_c_22, main_v41, main_c_23, main_c_24, main_v42, main_c_25, main_c_26, main_v43, main_c_27, main_v44] : List (Ref sig .tc)) ∧ r ∉ ([main_v45] : List (Ref sig .tc))

/-- The contents before each stretch but the first. -/
def V1 : Valuation τ sig (Elt F) := after opsDist V
def V2 : Valuation τ sig (Elt F) := after opsArg (V1 V)
def V3 : Valuation τ sig (Elt F) := after opsIdx (V2 V)
def V4 : Valuation τ sig (Elt F) := after opsTake (V3 V)

theorem after_join (l₁ l₂ : List (HloOp τ sig (Elt F))) (W : Valuation τ sig (Elt F)) : after (l₁ ++ l₂) W = after l₂ (after l₁ W) := by
  induction l₁ generalizing W with
  | nil => rfl
  | cons op l ih => exact ih _

theorem after_ops : after ops V = after opsRes (V4 V) := by
  unfold ops V4 V3 V2 V1
  rw [after_join, after_join, after_join, after_join]

theorem V3_kept {r : Ref sig .tc} (h : Kept r) : V3 V (Proc.devRef .tc r) = V (Proc.devRef .tc r) :=
  ((after_of_writes_sub _ _ (forall_writes_sub_of_map wIdx) h.2.2.1).trans
    (after_of_writes_sub _ _ (forall_writes_sub_of_map wArg) h.2.1)).trans
    (after_of_writes_sub _ _ (forall_writes_sub_of_map wDist) h.1)
theorem V4_kept {r : Ref sig .tc} (h : Kept r) : V4 V (Proc.devRef .tc r) = V (Proc.devRef .tc r) :=
  (after_of_writes_sub _ _ (forall_writes_sub_of_map wTake) h.2.2.2).trans (V3_kept V h)
theorem ops_kept {r : Ref sig .tc} (h : Kept r) (h' : r ∉ ([main_v46, main_v47, main_v48, main_v49, main_v50, main_v51, main_v52, main_v53, main_v54, main_v55] : List (Ref sig .tc))) :
    after ops V (Proc.devRef .tc r) = V (Proc.devRef .tc r) := by
  rw [after_ops]
  exact (after_of_writes_sub _ _ (forall_writes_sub_of_map wRes) h').trans (V4_kept V h)

/-- The position that the program selects. -/
def pick (f1 f2 f3 : Vec F S4x384x32x32 .f32) (M : Vec F S10x3x4x384x32x32 .f32) : Vec F S_ .i32 := least (different f1 f2 f3 M)

/-- The slot that the program selects. -/
def chosen (f1 f2 f3 : Vec F S4x384x32x32 .f32) (M : Vec F S10x3x4x384x32x32 .f32) : Vec F S3x4x384x32x32 .f32 :=
  slotAt M (start (pick f1 f2 f3 M))

theorem V2_pick : V2 V (main_v26 : DevRef τ sig)
    = pick (V (main_arg0 : DevRef τ sig)) (V (main_arg1 : DevRef τ sig)) (V (main_arg2 : DevRef τ sig)) (V (main_arg3 : DevRef τ sig)) :=
  (arg_eq (V1 V)).trans (congrArg (least (F := F)) (dist_eq V))

theorem starts_eq : starts (V3 V)
    = start (pick (V (main_arg0 : DevRef τ sig)) (V (main_arg1 : DevRef τ sig)) (V (main_arg2 : DevRef τ sig)) (V (main_arg3 : DevRef τ sig))) := by
  unfold starts start V3
  rw [idx0, idx1, idx2, idx3, idx4, idx5, V2_pick]

theorem V4_sel : three (V4 V (main_v45 : DevRef τ sig))
    = chosen (V (main_arg0 : DevRef τ sig)) (V (main_arg1 : DevRef τ sig)) (V (main_arg2 : DevRef τ sig)) (V (main_arg3 : DevRef τ sig)) := by
  unfold V4 chosen slotAt three
  rw [take_eq, starts_eq, V3_kept V (r := main_arg3) (by decide)]
  rfl

/-- Nothing is scoped. -/
theorem scopedRefs_eq : (Finset.univ.filter fun b : Ref sig .tc => b.isScoped) = ∅ := by decide
theorem scopedSems_eq : (Finset.univ.filter fun sm : SemLoc sig => sm.isScoped .tc) = ∅ := by decide

theorem sDist : (opsDist : List (HloOp τ sig (Elt F))).Forall fun op => op.bufs ⊆ tcRefs τ sig := ⟨unary_bufs_sub .., reshape_bufs_sub .., unary_bufs_sub .., unary_bufs_sub .., binary_bufs_sub .., binary_bufs_sub .., nullary_bufs_sub .., binary_bufs_sub .., unary_bufs_sub .., unary_bufs_sub .., reshape_bufs_sub .., unary_bufs_sub .., unary_bufs_sub .., binary_bufs_sub .., binary_bufs_sub .., nullary_bufs_sub .., binary_bufs_sub .., unary_bufs_sub .., binary_bufs_sub .., unary_bufs_sub .., reshape_bufs_sub .., unary_bufs_sub .., unary_bufs_sub .., binary_bufs_sub .., binary_bufs_sub .., nullary_bufs_sub .., binary_bufs_sub .., unary_bufs_sub .., binary_bufs_sub ..⟩
theorem sArg : (opsArg : List (HloOp τ sig (Elt F))).Forall fun op => op.bufs ⊆ tcRefs τ sig :=
  ⟨nullary_bufs_sub .., nullary_bufs_sub .., nullary_bufs_sub .., quaternary_bufs_sub .., quaternary_bufs_sub ..⟩
theorem sIdx : (opsIdx : List (HloOp τ sig (Elt F))).Forall fun op => op.bufs ⊆ tcRefs τ sig := ⟨nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub ..⟩
theorem sTake : (opsTake : List (HloOp τ sig (Elt F))).Forall fun op => op.bufs ⊆ tcRefs τ sig := unaryIndexed_bufs_sub ..
theorem sRes : (opsRes : List (HloOp τ sig (Elt F))).Forall fun op => op.bufs ⊆ tcRefs τ sig := ⟨reshape_bufs_sub .., unary_bufs_sub .., reshape_bufs_sub .., binary_bufs_sub .., unary_bufs_sub .., reshape_bufs_sub .., binary_bufs_sub .., unary_bufs_sub .., reshape_bufs_sub .., binary_bufs_sub ..⟩

theorem ops_sub : (ops : List (HloOp τ sig (Elt F))).Forall fun op => op.bufs ⊆ tcRefs τ sig := by
  rw [List.forall_iff_forall_mem]
  intro op h
  rcases List.mem_append.mp h with h | h
  · exact List.forall_iff_forall_mem.mp sDist op h
  rcases List.mem_append.mp h with h | h
  · exact List.forall_iff_forall_mem.mp sArg op h
  rcases List.mem_append.mp h with h | h
  · exact List.forall_iff_forall_mem.mp sIdx op h
  rcases List.mem_append.mp h with h | h
  · exact List.forall_iff_forall_mem.mp sTake op h
  · exact List.forall_iff_forall_mem.mp sRes op h

/-- Every operation gives each of its results a value. -/
theorem ops_fresh : ∀ op ∈ (ops : List (HloOp τ sig (Elt F))), op.fresh = ∅ :=
  List.forall_iff_forall_mem.mp (forall_fresh_of_map (ops := ops (F := F)) rfl)

/-- The run of the reference: the three joined features, the selected slot, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = beside (m ((c.tc : Thread nD τ).loc main_arg0))
          (arr0 (chosen (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_v52) = beside (m ((c.tc : Thread nD τ).loc main_arg1))
          (arr1 (chosen (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_v55) = beside (m ((c.tc : Thread nD τ).loc main_arg2))
          (arr2 (chosen (m ((c.tc : Thread nD τ).loc main_arg0)) (m ((c.tc : Thread nD τ).loc main_arg1)) (m ((c.tc : Thread nD τ).loc main_arg2)) (m ((c.tc : Thread nD τ).loc main_arg3))))
      ∧ r.2.mem ((c.tc : Thread nD τ).loc main_v46)
          = chosen (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    refine ⟨(h c main_v49).trans ?_, (h c main_v52).trans ?_, (h c main_v55).trans ?_, (h c main_v46).trans ?_,
      (h c main_arg0).trans (ops_kept _ (by decide) (by decide)), (h c main_arg1).trans (ops_kept _ (by decide) (by decide)),
      (h c main_arg2).trans (ops_kept _ (by decide) (by decide)), (h c main_arg3).trans (ops_kept _ (by decide) (by decide))⟩
    · rw [after_ops, res0, V4_sel, V4_kept _ (r := main_arg0) (by decide)]
    · rw [after_ops, res1, V4_sel, V4_kept _ (r := main_arg1) (by decide)]
    · rw [after_ops, res2, V4_sel, V4_kept _ (r := main_arg2) (by decide)]
    · rw [after_ops, res_sel, V4_sel])
    (run_seq scopedRefs_eq scopedSems_eq defs main (fun _ => ops) main_eq (fun _ => ops_sub) m ρ (fun _ => ops_fresh))

end Cert.Proof.R

end
-- ==== Proof.PickR.lean ====
/-
  The slot the reference picks: the first of the ten whose distance is least.
-/
module

public import proofs.«01_k».proof.Proof.RefRun
public import proofs.«01_k».proof.Proof.Least

@[expose] public section

set_option maxRecDepth 16384

noncomputable section

namespace Cert.Proof.R

open Cert.ReferenceIdeal Cert.ReferenceIdeal.Gen
open Idealize.ShloMosaic

/-- The reducer of the arg-min at extended reals: keep the first pair where its value is less, or equal at a smaller position. -/
theorem reducer_def (v x : EReal) (i n : BitVec 32) :
    reducer_argmin_f32_i32 (F := Ideal) (v, i) (x, n)
      = (if v < x then v else x, if v < x ∨ (v = x ∧ i.slt n = true) then i else n) := by
  unfold reducer_argmin_f32_i32
  by_cases h1 : v < x
  · have h2 : ¬ v = x := ne_of_lt h1
    simp [Ideal.cmpf_def, Ideal.cmp, h1, h2, IntOp.ori, IntOp.andi, Scalar.select]
  · by_cases h2 : v = x <;> by_cases h3 : i.slt n = true <;>
      simp [Ideal.cmpf_def, Ideal.cmp, h1, h2, h3, IntOp.ori, IntOp.andi, IntOp.cmpi, Scalar.select]

/-- What the fold holds after the first `n` positions: the first of them where the value is least. -/
def Upto (d : Fin 10 → EReal) (n : ℕ) (s : Ideal .f32 × BitVec 32) : Prop :=
  ∃ k : Fin 10, k.val < n ∧ s = (d k, BitVec.ofNat 32 k.val) ∧ (∀ i : Fin 10, i.val < n → d k ≤ d i) ∧ ∀ i, i < k → d k < d i

theorem slt_word (a b : Fin 10) : (BitVec.ofNat 32 a.val).slt (BitVec.ofNat 32 b.val) = decide (a < b) := by
  revert a b; decide +kernel

theorem Upto.zero (d : Fin 10 → EReal) (s : Ideal .f32 × BitVec 32) (hs : s = ((⊤ : EReal), 0#32)) :
    Upto d 1 (reducer_argmin_f32_i32 (F := Ideal) s (d 0, BitVec.ofNat 32 0)) := by
  subst hs
  rw [reducer_def]
  refine ⟨0, by decide, ?_, ?_, ?_⟩
  · rw [if_neg not_top_lt, if_neg (by rintro (h | h); exacts [not_top_lt h, absurd h.2 (by decide)])]; rfl
  · intro i hi
    have : i = 0 := Fin.ext (by show i.val = 0; omega)
    rw [this]
  · intro i hi
    exact absurd hi (by omega)

theorem Upto.succ (d : Fin 10 → EReal) (n : Fin 10) (s : Ideal .f32 × BitVec 32) (h : Upto d n.val s) :
    Upto d (n.val + 1) (reducer_argmin_f32_i32 (F := Ideal) s (d n, BitVec.ofNat 32 n.val)) := by
  obtain ⟨k, hk, rfl, hle, hlt⟩ := h
  rw [reducer_def, slt_word]
  by_cases hc : d k ≤ d n
  · refine ⟨k, by omega, ?_, ?_, hlt⟩
    · by_cases he : d k < d n
      · rw [if_pos he, if_pos (Or.inl he)]
      · have e : d k = d n := le_antisymm hc (not_lt.mp he)
        rw [if_neg he, if_pos (Or.inr ⟨e, decide_eq_true (by show k.val < n.val; exact hk)⟩), ← e]
    · intro i hi
      rcases Nat.lt_succ_iff_lt_or_eq.mp hi with h | h
      · exact hle i h
      · rw [show i = n from Fin.ext h]; exact hc
  · have hnk : d n < d k := not_le.mp hc
    refine ⟨n, by omega, ?_, ?_, ?_⟩
    · rw [if_neg (not_lt.mpr hnk.le), if_neg]
      rintro (h | h)
      exacts [not_lt.mpr hnk.le h, absurd h.1 (ne_of_gt hnk)]
    · intro i hi
      rcases Nat.lt_succ_iff_lt_or_eq.mp hi with h | h
      · exact hnk.le.trans (hle i h)
      · rw [show i = n from Fin.ext h]
    · intro i hi
      exact hnk.trans_le (hle i hi)

/-- The fold of the reducer over the ten pairs. -/
theorem fold_upto (d : Fin 10 → EReal) (s : Ideal .f32 × BitVec 32) (hs : s = ((⊤ : EReal), 0#32)) :
    Upto d 10 (((List.finRange 10).map fun n : Fin 10 => ((d n, BitVec.ofNat 32 n.val) : Ideal .f32 × BitVec 32)).foldl
      (reducer_argmin_f32_i32 (F := Ideal)) s) := by
  rw [show List.finRange 10 = [0, 1, 2, 3, 4, 5, 6, 7, 8, 9] from by decide]
  exact .succ d 9 _ (.succ d 8 _ (.succ d 7 _ (.succ d 6 _ (.succ d 5 _ (.succ d 4 _ (.succ d 3 _ (.succ d 2 _ (.succ d 1 _ (.zero d s hs)))))))))

/-- The pairs the arg-min folds over. -/
theorem fiber_eq (d : Vec Ideal S10 .f32) (j : S_.Idx) :
    Host.argReduceFiber d (iotaInDim S10 32 0) reducesTo_S10_S_d0 j
      = (List.finRange 10).map fun n : Fin 10 => ((d (ix1 n), BitVec.ofNat 32 n.val) : Ideal .f32 × BitVec 32) := by
  unfold Host.argReduceFiber
  rw [List.filter_eq_self.mpr fun n _ => decide_eq_true (funext fun a => a.elim0)]
  show (List.finRange 10).map _ = _
  refine List.map_congr_left fun n _ => ?_
  have e : S10.rowMajor.symm n = ix1 n := by
    refine (Equiv.symm_apply_eq _).mpr (Fin.ext ?_)
    exact (Idealize.ShloMosaic.rowMajor_val1 (d := ![10]) (ix1 n)).symm
  rw [e]
  rfl

/-- The index of the least distance, as a word. -/
theorem least_first (d : Vec Ideal S10 .f32) (k : Fin 10) (hk : First (fun s => d (ix1 s)) k) (j : S_.Idx) :
    least d j = BitVec.ofNat 32 k.val := by
  unfold least
  rw [Ideal.argReduce_eq_reduce2, Host.reduce2_eq_foldl_fiber, fiber_eq]
  obtain ⟨k', -, e, hle, hlt⟩ := fold_upto (fun s => d (ix1 s)) _ (Prod.ext
    (show Ideal.ofBits FTy.f32 0x7F800000#32 = ⊤ from by simp [Ideal.ofBits, Ideal.ieee]) rfl)
  refine (congrArg Prod.snd e).trans ?_
  have : k' = k := by
    rcases lt_trichotomy k' k with h | h | h
    · exact absurd (hk.2 k' h) (not_lt.mpr (hle k k.isLt))
    · exact h
    · exact absurd (hlt k h) (not_lt.mpr (hk.1 k'))
  rw [this]

end Cert.Proof.R

end
-- ==== Proof.RefVal.lean ====
/-
  What the reference program leaves, at an index, given the position of the least distance.
-/
module

public import proofs.«01_k».proof.Proof.PickR
public import Idealize.ShloMosaic.Lib.Pointwise
public import Idealize.ShloMosaic.Lib.DynamicIndex

@[expose] public section

set_option maxRecDepth 16384

noncomputable section

namespace Cert.Proof.R

open Cert.ReferenceIdeal Cert.ReferenceIdeal.Gen
open Idealize.ShloMosaic Idealize.ShloMosaic.TcCoe Idealize.ShloMosaic.StableHlo

variable {F : FTy → Type} [FloatOps F]

theorem arr0_apply (s : Vec F S3x4x384x32x32 .f32) (n : Fin 4) (l : Fin 384) (h w : Fin 32) : arr0 s (ix4 n l h w) = s (ix5 0 n l h w) := by
  pointwise [arr0]
theorem arr1_apply (s : Vec F S3x4x384x32x32 .f32) (n : Fin 4) (l : Fin 384) (h w : Fin 32) : arr1 s (ix4 n l h w) = s (ix5 1 n l h w) := by
  pointwise [arr1]
theorem arr2_apply (s : Vec F S3x4x384x32x32 .f32) (n : Fin 4) (l : Fin 384) (h w : Fin 32) : arr2 s (ix4 n l h w) = s (ix5 2 n l h w) := by
  pointwise [arr2]
theorem three_apply (s : Vec F S1x3x4x384x32x32 .f32) (j : Fin 3) (n : Fin 4) (l : Fin 384) (h w : Fin 32) : three s (ix5 j n l h w) = s (ix6 0 j n l h w) := by
  pointwise [three]

theorem beside_left (f y : Vec F S4x384x32x32 .f32) (n : Fin 4) (l : Fin 384) (h w : Fin 32) :
    beside f y (ix4 n ⟨l.val, by omega⟩ h w) = f (ix4 n l h w) := by
  pointwise [beside]
theorem beside_right (f y : Vec F S4x384x32x32 .f32) (n : Fin 4) (l : Fin 384) (h w : Fin 32) :
    beside f y (ix4 n ⟨384 + l.val, by omega⟩ h w) = y (ix4 n l h w) := by
  pointwise [beside]

theorem small : ∀ k : Fin 10, BitVec.slt (BitVec.ofNat 32 k.val) 0#32 = false ∧ (BitVec.ofNat 32 k.val).toInt = k.val := by decide

/-- An index that is not negative stays. -/
theorem wrap_apply (n : BitVec 32) (a : Vec F S_ .i32) (k : Fin 10) (ha : ∀ j, a j = BitVec.ofNat 32 k.val) (j : S_.Idx) :
    wrap (F := F) n a j = BitVec.ofNat 32 k.val := by
  show (if BitVec.ofBool ((a j).slt 0#32) = 1 then _ else a j) = _
  rw [ha j, (small k).1]
  rfl

/-- The start of slot `k`, as integers. -/
theorem start_apply (a : Vec F S_ .i32) (k : Fin 10) (ha : ∀ j, a j = BitVec.ofNat 32 k.val) (i : Fin 6) (j : S_.Idx) :
    (start (F := F) a i j).toInt = ((![k.val, 0, 0, 0, 0, 0] : Fin 6 → Nat) i : Int) := by
  have h0 : ∀ j : S_.Idx, (constantI S_ 32 0#32 : Vec F S_ .i32) j = BitVec.ofNat 32 (0 : Fin 10).val := fun _ => rfl
  match i with
  | ⟨0, _⟩ => exact (congrArg BitVec.toInt (wrap_apply (F := F) 10#32 a k ha j)).trans (small k).2
  | ⟨1, _⟩ => exact (congrArg BitVec.toInt (wrap_apply (F := F) 3#32 (constantI S_ 32 0#32) 0 h0 j)).trans (small 0).2
  | ⟨2, _⟩ => exact (congrArg BitVec.toInt (wrap_apply (F := F) 4#32 (constantI S_ 32 0#32) 0 h0 j)).trans (small 0).2
  | ⟨3, _⟩ => exact (congrArg BitVec.toInt (wrap_apply (F := F) 384#32 (constantI S_ 32 0#32) 0 h0 j)).trans (small 0).2
  | ⟨4, _⟩ => exact (congrArg BitVec.toInt (wrap_apply (F := F) 32#32 (constantI S_ 32 0#32) 0 h0 j)).trans (small 0).2
  | ⟨5, _⟩ => exact (congrArg BitVec.toInt (wrap_apply (F := F) 32#32 (constantI S_ 32 0#32) 0 h0 j)).trans (small 0).2

theorem inside (k : Fin 10) : S10x3x4x384x32x32.Slices ![k.val, 0, 0, 0, 0, 0] S1x3x4x384x32x32 := by
  revert k
  decide

theorem slotAt_apply (M : Vec F S10x3x4x384x32x32 .f32) (a : Vec F S_ .i32) (k : Fin 10) (ha : ∀ j, a j = BitVec.ofNat 32 k.val)
    (j : Fin 3) (n : Fin 4) (l : Fin 384) (h w : Fin 32) : slotAt M (start a) (ix5 j n l h w) = M (ix6 k j n l h w) := by
  unfold slotAt
  rw [Host.dynamicSlice_eq_extractStridedSlice S1x3x4x384x32x32 M _ ![k.val, 0, 0, 0, 0, 0] _ (inside k) (fun i => start_apply a k ha i _)]
  pointwise

/-- A sum over all the places of the ten arrays that lie in array `s`. -/
theorem sum_drop (v : S10x4x384x32x32.Idx → EReal) (s : Fin 10) (init : EReal) :
    Ideal.hostReduceAdd reducesTo_S10x4x384x32x32_S10_d1_2_3_4 v init (ix1 s) = init + ∑ n : Fin 4, ∑ l : Fin 384, ∑ h : Fin 32, ∑ w : Fin 32, v (ix5 s n l h w) := by
  unfold Ideal.hostReduceAdd
  congr 1
  rw [Finset.sum_filter, sum_idx5, Finset.sum_eq_single s]
  · refine Finset.sum_congr rfl fun n _ => Finset.sum_congr rfl fun l _ => Finset.sum_congr rfl fun h _ => Finset.sum_congr rfl fun w _ => if_pos ?_
    funext b
    match b with
    | ⟨0, _⟩ => rfl
  · intro s' _ hs
    refine Finset.sum_eq_zero fun n _ => Finset.sum_eq_zero fun l _ => Finset.sum_eq_zero fun h _ => Finset.sum_eq_zero fun w _ => if_neg fun e => hs ?_
    exact Fin.ext (congrArg Fin.val (congrFun e 0))
  · exact fun h => absurd (Finset.mem_univ s) h

/-- The distance of a feature to array `s`: the root of the sum of the squared differences. -/
theorem distOf_apply (f : Vec Ideal S4x384x32x32 .f32) (y : Vec Ideal S10x4x384x32x32 .f32) (s : Fin 10) :
    distOf f y (ix1 s) = Ideal.sqrt (∑ n : Fin 4, ∑ l : Fin 384, ∑ h : Fin 32, ∑ w : Fin 32,
      (f (ix4 n l h w) - y (ix5 s n l h w)) * (f (ix4 n l h w) - y (ix5 s n l h w))) := by
  pointwise [distOf]
  rw [sum_drop, zero_add]
  pointwise

theorem part0_apply (M : Vec F S10x3x4x384x32x32 .f32) (s : Fin 10) (n : Fin 4) (l : Fin 384) (h w : Fin 32) :
    part0 M (ix5 s n l h w) = M (ix6 s 0 n l h w) := by
  pointwise [part0]
theorem part1_apply (M : Vec F S10x3x4x384x32x32 .f32) (s : Fin 10) (n : Fin 4) (l : Fin 384) (h w : Fin 32) :
    part1 M (ix5 s n l h w) = M (ix6 s 1 n l h w) := by
  pointwise [part1]
theorem part2_apply (M : Vec F S10x3x4x384x32x32 .f32) (s : Fin 10) (n : Fin 4) (l : Fin 384) (h w : Fin 32) :
    part2 M (ix5 s n l h w) = M (ix6 s 2 n l h w) := by
  pointwise [part2]

/-- The sum of squares behind the distance of a feature to part `j` of slot `s`. -/
def sq (f : Vec Ideal S4x384x32x32 .f32) (M : Vec Ideal S10x3x4x384x32x32 .f32) (j : Fin 3) (s : Fin 10) : EReal :=
  ∑ n : Fin 4, ∑ l : Fin 384, ∑ h : Fin 32, ∑ w : Fin 32, (f (ix4 n l h w) - M (ix6 s j n l h w)) * (f (ix4 n l h w) - M (ix6 s j n l h w))

theorem different_apply (f1 f2 f3 : Vec Ideal S4x384x32x32 .f32) (M : Vec Ideal S10x3x4x384x32x32 .f32) (s : Fin 10) :
    different f1 f2 f3 M (ix1 s) = Ideal.sqrt (sq f1 M 0 s) + Ideal.sqrt (sq f2 M 1 s) + Ideal.sqrt (sq f3 M 2 s) := by
  show distOf f1 (part0 M) (ix1 s) + distOf f2 (part1 M) (ix1 s) + distOf f3 (part2 M) (ix1 s) = _
  simp only [distOf_apply, part0_apply, part1_apply, part2_apply, sq]

/-- The selected slot, when slot `k` is the first of the nearest. -/
theorem chosen_apply (f1 f2 f3 : Vec Ideal S4x384x32x32 .f32) (M : Vec Ideal S10x3x4x384x32x32 .f32) (k : Fin 10)
    (hk : First (fun s => different f1 f2 f3 M (ix1 s)) k) (j : Fin 3) (n : Fin 4) (l : Fin 384) (h w : Fin 32) :
    chosen f1 f2 f3 M (ix5 j n l h w) = M (ix6 k j n l h w) :=
  slotAt_apply M _ k (fun i => least_first _ k hk i) j n l h w

end Cert.Proof.R

end
-- ==== Proof.Dist.lean ====
/-
  The kernel's distances are the reference's: the same squared differences, summed block by block.
-/
module

public import proofs.«01_k».proof.Proof.Acc
public import proofs.«01_k».proof.Proof.RefVal

@[expose] public section

set_option maxRecDepth 16384

noncomputable section

namespace Cert.Proof

open Idealize.ShloMosaic Idealize.ShloMosaic.TcCoe
open Cert.Proof.K (row gain)

/-- The square of a difference does not depend on its order, infinities included. -/
theorem diff_sq (a b : EReal) : (a - b) * (a - b) = (b - a) * (b - a) := by
  induction a using EReal.rec with
  | bot =>
    induction b using EReal.rec with
    | bot => rfl
    | coe y => rfl
    | top => rfl
  | coe x =>
    induction b using EReal.rec with
    | bot => rfl
    | coe y =>
      rw [← EReal.coe_sub, ← EReal.coe_sub, ← EReal.coe_mul, ← EReal.coe_mul]
      exact congrArg _ (by ring)
    | top => rfl
  | top =>
    induction b using EReal.rec with
    | bot => rfl
    | coe y => rfl
    | top => rfl

/-- The 4096 rows as two blocks of 2048. -/
def rowLo (r : Fin 2048) : Fin 4096 := ⟨r.val, by omega⟩
def rowHi (r : Fin 2048) : Fin 4096 := ⟨2048 + r.val, by omega⟩

theorem sum_halves (g : Fin 4096 → EReal) : (∑ r, g (rowLo r)) + (∑ r, g (rowHi r)) = ∑ R, g R :=
  (Fin.sum_univ_add (a := 2048) (b := 2048) (f := g)).symm

/-- The 4096 rows by image, height and width. -/
def rows : Fin 4 × Fin 32 × Fin 32 ≃ Fin 4096 where
  toFun p := row p.1 p.2.1 p.2.2
  invFun R := (⟨R.val / 1024, by omega⟩, ⟨R.val % 1024 / 32, by omega⟩, ⟨R.val % 32, by omega⟩)
  left_inv p := by
    obtain ⟨n, h, w⟩ := p
    refine Prod.ext (Fin.ext ?_) (Prod.ext (Fin.ext ?_) (Fin.ext ?_))
    · show (n.val * 1024 + h.val * 32 + w.val) / 1024 = n.val; omega
    · show (n.val * 1024 + h.val * 32 + w.val) % 1024 / 32 = h.val; omega
    · show (n.val * 1024 + h.val * 32 + w.val) % 32 = w.val; omega
  right_inv R := Fin.ext (by show R.val / 1024 * 1024 + R.val % 1024 / 32 * 32 + R.val % 32 = R.val; omega)

theorem sum_rows (g : Fin 4096 → EReal) : (∑ R, g R) = ∑ n : Fin 4, ∑ h : Fin 32, ∑ w : Fin 32, g (row n h w) := by
  rw [← Equiv.sum_comp rows g, Fintype.sum_prod_type]
  refine Finset.sum_congr rfl fun n _ => ?_
  rw [Fintype.sum_prod_type]
  rfl

/-- A column's sums of two blocks, over all columns, are the sum over the whole feature. -/
theorem whole_sum (f : Vec Ideal Cert.ReferenceIdeal.S4x384x32x32 .f32) (M : Vec Ideal Cert.ReferenceIdeal.S10x3x4x384x32x32 .f32)
    (j : Fin 3) (s : Fin 10) (q : Fin 384 → Fin 4096 → EReal)
    (hq : ∀ l n h w, q l (row n h w) = (M (ix6 s j n l h w) - f (ix4 n l h w)) * (M (ix6 s j n l h w) - f (ix4 n l h w))) :
    (∑ l : Fin 384, ((∑ r, q l (rowLo r)) + ∑ r, q l (rowHi r))) = R.sq f M j s := by
  unfold R.sq
  simp only [sum_halves, sum_rows, hq]
  rw [Finset.sum_comm]
  refine Finset.sum_congr rfl fun n _ => Finset.sum_congr rfl fun l _ => Finset.sum_congr rfl fun h _ => Finset.sum_congr rfl fun w _ => diff_sq _ _

end Cert.Proof

end
-- ==== Proof.Same.lean ====
/-
  The distances the kernel accumulates are the ones the reference computes, slot by slot.
-/
module

public import proofs.«01_k».proof.Proof.Dist
public import proofs.«01_k».proof.Proof.Table

@[expose] public section

set_option maxRecDepth 16384

noncomputable section

namespace Cert.Proof

open Cert.KernelIdeal Cert.KernelIdeal.Gen Cert.Proof.K
open Idealize.ShloMosaic Idealize.ShloMosaic.TcCoe

theorem distA_of (A : Vec Ideal S32x1x384 .f32) (s : Fin 10) (a0 a1 a2 : EReal)
    (h0 : (∑ l : Fin 384, A (ix3 (line 0 s) 0 l)) = a0) (h1 : (∑ l : Fin 384, A (ix3 (line 1 s) 0 l)) = a1)
    (h2 : (∑ l : Fin 384, A (ix3 (line 2 s) 0 l)) = a2) : distA A s = Ideal.sqrt a0 + Ideal.sqrt a1 + Ideal.sqrt a2 := by
  have e : (⟨s.val, by omega⟩ : Fin 32) = line 0 s := Fin.ext (by show s.val = 10 * 0 + s.val; omega)
  subst h0 h1 h2
  unfold distA
  rw [e]
  rfl

/-- The squared difference at row `R` and column `l`. -/
def sqAt (f : Vec Ideal S4x384x32x32 .f32) (M : Vec Ideal S10x3x4x384x32x32 .f32) (j : Fin 3) (s : Fin 10) (l : Fin 384) (R : Fin 4096) : EReal :=
  (flatM M (ix4 s j R l) - flat f (ix2 R l)) * (flatM M (ix4 s j R l) - flat f (ix2 R l))

theorem sqAt_row (f : Vec Ideal S4x384x32x32 .f32) (M : Vec Ideal S10x3x4x384x32x32 .f32) (j : Fin 3) (s : Fin 10) (l : Fin 384)
    (n : Fin 4) (h w : Fin 32) :
    sqAt f M j s l (row n h w) = (M (ix6 s j n l h w) - f (ix4 n l h w)) * (M (ix6 s j n l h w) - f (ix4 n l h w)) := by
  unfold sqAt
  rw [flatM_apply, flat_apply]

section
variable (f : Vec Ideal S4x384x32x32 .f32) (M : Vec Ideal S10x3x4x384x32x32 .f32) (j : Fin 3) (s : Fin 10)
  (x : (t : Fin cfg0.N) → Vec Ideal S1x3x2048x384 .f32) (y : (t : Fin cfg0.N) → Vec Ideal S2048x384 .f32)
  (hx : ∀ t r l, x t (ix4 0 j r l) = flatM M (ix4 (slot0 t) j (row0 t r) l)) (hy : ∀ t r l, y t (ix2 r l) = flat f (ix2 (row0 t r) l))

include hx hy

theorem gain_lo (l : Fin 384) : gain (x (pt0 ⟨s.val, by omega⟩)) (y (pt0 ⟨s.val, by omega⟩)) j l = ∑ r, sqAt f M j s l (rowLo r) := by
  have hs : slot0 (pt0 ⟨s.val, by omega⟩) = s := Fin.ext (by show s.val % 10 = s.val; omega)
  have hr : ∀ r, row0 (pt0 ⟨s.val, by omega⟩) r = rowLo r := fun r => Fin.ext (by show s.val / 10 * 2048 + r.val = r.val; omega)
  unfold gain sqAt
  refine Finset.sum_congr rfl fun r _ => ?_
  rw [hx, hy, hs, hr]

theorem gain_hi (l : Fin 384) : gain (x (pt0 ⟨10 + s.val, by omega⟩)) (y (pt0 ⟨10 + s.val, by omega⟩)) j l = ∑ r, sqAt f M j s l (rowHi r) := by
  have hs : slot0 (pt0 ⟨10 + s.val, by omega⟩) = s := Fin.ext (by show (10 + s.val) % 10 = s.val; omega)
  have hr : ∀ r, row0 (pt0 ⟨10 + s.val, by omega⟩) r = rowHi r := fun r => Fin.ext (by show (10 + s.val) / 10 * 2048 + r.val = 2048 + r.val; omega)
  unfold gain sqAt
  refine Finset.sum_congr rfl fun r _ => ?_
  rw [hx, hy, hs, hr]

/-- A row of the accumulator summed, when it holds the two gains. -/
theorem line_sum (a : Fin 384 → EReal)
    (ha : ∀ l, a l = gain (x (pt0 ⟨s.val, by omega⟩)) (y (pt0 ⟨s.val, by omega⟩)) j l + gain (x (pt0 ⟨10 + s.val, by omega⟩)) (y (pt0 ⟨10 + s.val, by omega⟩)) j l) :
    (∑ l, a l) = R.sq f M j s :=
  (Finset.sum_congr rfl fun l _ => (ha l).trans (congrArg₂ (· + ·) (gain_lo f M j s x y hx hy l) (gain_hi f M j s x y hx hy l))).trans
    (whole_sum f M j s (sqAt f M j s) fun l n h w => sqAt_row f M j s l n h w)

end

variable (m : (ℓ : Loc nD τ sig) → Buf (Elt Ideal) ℓ) (c : Dev nD)

theorem x3_flat (j : Fin 3) (t : Fin cfg0.N) (r : Fin 2048) (l : Fin 384) :
    x3 (B1 m) c t (ix4 0 j r l) = flatM (m ((c.tc : Thread nD τ).loc main_arg3)) (ix4 (slot0 t) j (row0 t r) l) :=
  (x3_apply (B1 m) c t j r l).trans (congrFun (B1_v7 m c) _)

theorem dists_eq (s : Fin 10) : dists m c s = R.different (m ((c.tc : Thread nD τ).loc main_arg0)) (m ((c.tc : Thread nD τ).loc main_arg1))
    (m ((c.tc : Thread nD τ).loc main_arg2)) (m ((c.tc : Thread nD τ).loc main_arg3)) (ix1 s) :=
  (distA_of _ s _ _ _
    (line_sum (m ((c.tc : Thread nD τ).loc main_arg0)) (m ((c.tc : Thread nD τ).loc main_arg3)) 0 s (x3 (B1 m) c) (x0 (B1 m) c) (x3_flat m c 0)
      (fun t r l => (x0_apply (B1 m) c t r l).trans (congrFun (B1_v1 m c) _)) _ (accum0 (B1 m) c s))
    (line_sum (m ((c.tc : Thread nD τ).loc main_arg1)) (m ((c.tc : Thread nD τ).loc main_arg3)) 1 s (x3 (B1 m) c) (x1 (B1 m) c) (x3_flat m c 1)
      (fun t r l => (x1_apply (B1 m) c t r l).trans (congrFun (B1_v3 m c) _)) _ (accum1 (B1 m) c s))
    (line_sum (m ((c.tc : Thread nD τ).loc main_arg2)) (m ((c.tc : Thread nD τ).loc main_arg3)) 2 s (x3 (B1 m) c) (x2 (B1 m) c) (x3_flat m c 2)
      (fun t r l => (x2_apply (B1 m) c t r l).trans (congrFun (B1_v5 m c) _)) _ (accum2 (B1 m) c s))).trans
    (R.different_apply _ _ _ _ s).symm

end Cert.Proof

end
-- ==== Proof.Frames.lean ====
/-
  Both programs run to their end, leave their arguments as they were, and leave every semaphore at zero.
-/
module

public import proofs.«01_k».proof.Defs
public import proofs.«01_k».proof.Proof.Table
public import proofs.«01_k».proof.Proof.RefRun
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem

section
open Cert.KernelIdeal Cert.KernelIdeal.Gen Cert.Proof.K

variable (m : (ℓ : Loc nD τ sig) → Buf (Elt Ideal) ℓ)

/-- The kernel's run: its four results, the arguments unchanged, the semaphores at zero. -/
theorem kernel_ends (hok : ok1 (tab m)) (g : Dev nD → PrngReg) :
    θ_run (defs (F := Ideal)) (onTc (τ := τ) (main (F := Ideal))) ⟨m, fun _ => 0, g⟩ (fun r => (∀ c : Dev nD,
      (r.2.mem ((c.tc : Thread nD τ).loc main_v17) = U5 m hok c (main_v17 : DevRef τ sig)
      ∧ r.2.mem ((c.tc : Thread nD τ).loc main_v19) = U5 m hok c (main_v19 : DevRef τ sig)
      ∧ r.2.mem ((c.tc : Thread nD τ).loc main_v21) = U5 m hok c (main_v21 : DevRef τ sig)
      ∧ r.2.mem ((c.tc : Thread nD τ).loc main_v15) = U5 m hok c (main_v15 : DevRef τ sig))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)))
      ∧ r.2.sem = fun _ => 0) :=
  (θ_run (defs (F := Ideal)) _ _).mono (fun r h => ⟨fun c => ⟨
      ⟨h.1 c main_v17 (Finset.mem_filter.mpr ⟨devRef_mem_tcRefs main_v17, by decide⟩),
       h.1 c main_v19 (Finset.mem_filter.mpr ⟨devRef_mem_tcRefs main_v19, by decide⟩),
       h.1 c main_v21 (Finset.mem_filter.mpr ⟨devRef_mem_tcRefs main_v21, by decide⟩),
       h.1 c main_v15 (Finset.mem_filter.mpr ⟨devRef_mem_tcRefs main_v15, by decide⟩)⟩,
      (h.1 c main_arg0 (Finset.mem_filter.mpr ⟨devRef_mem_tcRefs main_arg0, by decide⟩)).trans (U5_arg m hok c main_arg0 (by decide) (by decide) (by decide)),
      (h.1 c main_arg1 (Finset.mem_filter.mpr ⟨devRef_mem_tcRefs main_arg1, by decide⟩)).trans (U5_arg m hok c main_arg1 (by decide) (by decide) (by decide)),
      (h.1 c main_arg2 (Finset.mem_filter.mpr ⟨devRef_mem_tcRefs main_arg2, by decide⟩)).trans (U5_arg m hok c main_arg2 (by decide) (by decide) (by decide)),
      (h.1 c main_arg3 (Finset.mem_filter.mpr ⟨devRef_mem_tcRefs main_arg3, by decide⟩)).trans (U5_arg m hok c main_arg3 (by decide) (by decide) (by decide))⟩,
    h.2⟩) (kernel_run m hok g)

end

/-- The kernel's frame. -/
theorem kernel_quiet : Cert.quiescent_KernelIdeal (hKernelIdeal := Cert.KernelIdeal.Gen.facts) := by
  intro m g _
  obtain ⟨k, hk⟩ := First.exists (Cert.Proof.K.dists m 0)
  exact (θ_run (Cert.KernelIdeal.defs (F := Ideal)) _ _).mono (fun r h => ⟨fun c => (h.1 c).2, h.2⟩) (kernel_ends m (Cert.Proof.K.ok m k hk) g)

/-- The reference's frame. -/
theorem reference_quiet : Cert.quiescent_ReferenceIdeal (hReferenceIdeal := Cert.ReferenceIdeal.Gen.facts) := by
  intro m g _
  exact (θ_run (Cert.ReferenceIdeal.defs (F := Ideal)) _ _).mono (fun r h => ⟨fun c => (h c).2.2.2.2, sem_eq_zero_of_no_sems (by decide) r.2⟩)
    (Cert.Proof.R.ref_run (F := Ideal) m g)

end Cert.Proof

end
-- ==== Proof.Equal.lean ====
/-
  The kernel and the reference end with the same results.
-/
module

public import proofs.«01_k».proof.Proof.Same
public import proofs.«01_k».proof.Proof.Frames

@[expose] public section

set_option maxRecDepth 16384

noncomputable section

namespace Cert.Proof

open Idealize.ShloMosaic Idealize.ShloMosaic.TcCoe Idealize.ShloMosaic.StableHlo Idealize.SL.Sem
open Cert.Proof.R (beside chosen arr0 arr1 arr2 arr0_apply arr1_apply arr2_apply chosen_apply beside_left beside_right different)

section
open Cert.ReferenceIdeal

/-- An array with the two halves of a joined one is the joined one. -/
theorem joined (X : Vec Ideal S4x768x32x32 .f32) (f y : Vec Ideal S4x384x32x32 .f32)
    (hl : ∀ (n : Fin 4) (l : Fin 384) (h w : Fin 32), X (ix4 n ⟨l.val, by omega⟩ h w) = f (ix4 n l h w))
    (hr : ∀ (n : Fin 4) (l : Fin 384) (h w : Fin 32), X (ix4 n ⟨384 + l.val, by omega⟩ h w) = y (ix4 n l h w)) : X = beside f y := by
  funext i
  rw [eq_ix4 i]
  have hq : (i 1).val < 768 := (i 1).isLt
  by_cases e : (i 1).val < 384
  · exact (hl (i 0) ⟨(i 1).val, e⟩ (i 2) (i 3)).trans (beside_left f y (i 0) ⟨(i 1).val, e⟩ (i 2) (i 3)).symm
  · have hv : i 1 = ⟨384 + ((i 1).val - 384), by omega⟩ := Fin.ext (by show (i 1).val = 384 + ((i 1).val - 384); omega)
    rw [hv]
    exact (hr (i 0) ⟨(i 1).val - 384, by omega⟩ (i 2) (i 3)).trans (beside_right f y (i 0) ⟨(i 1).val - 384, by omega⟩ (i 2) (i 3)).symm

variable (X : Vec Ideal S3x4x384x32x32 .f32) (Y : Vec Ideal S4x768x32x32 .f32) (f0 f1 f2 f : Vec Ideal S4x384x32x32 .f32)
  (M : Vec Ideal S10x3x4x384x32x32 .f32) (k : Fin 10) (hk : First (fun s => different f0 f1 f2 M (ix1 s)) k)

include hk

theorem picked (hX : ∀ (j : Fin 3) (n : Fin 4) (l : Fin 384) (h w : Fin 32), X (ix5 j n l h w) = M (ix6 k j n l h w)) : X = chosen f0 f1 f2 M := by
  funext i
  rw [eq_ix5 i]
  exact (hX (i 0) (i 1) (i 2) (i 3) (i 4)).trans (chosen_apply f0 f1 f2 M k hk (i 0) (i 1) (i 2) (i 3) (i 4)).symm

theorem joined0 (hl : ∀ (n : Fin 4) (l : Fin 384) (h w : Fin 32), Y (ix4 n ⟨l.val, by omega⟩ h w) = f (ix4 n l h w))
    (hr : ∀ (n : Fin 4) (l : Fin 384) (h w : Fin 32), Y (ix4 n ⟨384 + l.val, by omega⟩ h w) = M (ix6 k 0 n l h w)) :
    Y = beside f (arr0 (chosen f0 f1 f2 M)) :=
  joined Y f _ hl fun n l h w => (hr n l h w).trans ((arr0_apply _ n l h w).trans (chosen_apply f0 f1 f2 M k hk 0 n l h w)).symm
theorem joined1 (hl : ∀ (n : Fin 4) (l : Fin 384) (h w : Fin 32), Y (ix4 n ⟨l.val, by omega⟩ h w) = f (ix4 n l h w))
    (hr : ∀ (n : Fin 4) (l : Fin 384) (h w : Fin 32), Y (ix4 n ⟨384 + l.val, by omega⟩ h w) = M (ix6 k 1 n l h w)) :
    Y = beside f (arr1 (chosen f0 f1 f2 M)) :=
  joined Y f _ hl fun n l h w => (hr n l h w).trans ((arr1_apply _ n l h w).trans (chosen_apply f0 f1 f2 M k hk 1 n l h w)).symm
theorem joined2 (hl : ∀ (n : Fin 4) (l : Fin 384) (h w : Fin 32), Y (ix4 n ⟨l.val, by omega⟩ h w) = f (ix4 n l h w))
    (hr : ∀ (n : Fin 4) (l : Fin 384) (h w : Fin 32), Y (ix4 n ⟨384 + l.val, by omega⟩ h w) = M (ix6 k 2 n l h w)) :
    Y = beside f (arr2 (chosen f0 f1 f2 M)) :=
  joined Y f _ hl fun n l h w => (hr n l h w).trans ((arr2_apply _ n l h w).trans (chosen_apply f0 f1 f2 M k hk 2 n l h w)).symm

end

section
open Cert.KernelIdeal Cert.KernelIdeal.Gen Cert.Proof.K

variable (m : (ℓ : Loc nD τ sig) → Buf (Elt Ideal) ℓ) (k : Fin 10) (hk : First (dists m 0) k)

/-- The kernel's first feature, second feature, third feature and memory. -/
abbrev in0 (c : Dev nD) : Vec Ideal S4x384x32x32 .f32 := m ((c.tc : Thread nD τ).loc main_arg0)
abbrev in1 (c : Dev nD) : Vec Ideal S4x384x32x32 .f32 := m ((c.tc : Thread nD τ).loc main_arg1)
abbrev in2 (c : Dev nD) : Vec Ideal S4x384x32x32 .f32 := m ((c.tc : Thread nD τ).loc main_arg2)
abbrev in3 (c : Dev nD) : Vec Ideal S10x3x4x384x32x32 .f32 := m ((c.tc : Thread nD τ).loc main_arg3)

include hk in
theorem first_ref (c : Dev nD) : First (fun s => different (in0 m c) (in1 m c) (in2 m c) (in3 m c) (ix1 s)) k := by
  have hc : c = 0 := Subsingleton.elim _ _
  subst hc
  have e : dists m 0 = fun s => different (in0 m 0) (in1 m 0) (in2 m 0) (in3 m 0) (ix1 s) := funext fun s => dists_eq m 0 s
  rw [← e]
  exact hk

theorem names : Names (adm1 m (ok m k hk)) k := fun i => tab_block m k hk i

theorem same0 (c : Dev nD) : (U5 m (ok m k hk) c (main_v17 : DevRef τ sig) : Vec Ideal S4x768x32x32 .f32)
    = beside (in0 m c) (arr0 (chosen (in0 m c) (in1 m c) (in2 m c) (in3 m c))) :=
  joined0 _ _ _ _ _ _ k (first_ref m k hk c) (out0_left m (ok m k hk) c) (out0_right m (ok m k hk) k (names m k hk) c)
theorem same1 (c : Dev nD) : (U5 m (ok m k hk) c (main_v19 : DevRef τ sig) : Vec Ideal S4x768x32x32 .f32)
    = beside (in1 m c) (arr1 (chosen (in0 m c) (in1 m c) (in2 m c) (in3 m c))) :=
  joined1 _ _ _ _ _ _ k (first_ref m k hk c) (out1_left m (ok m k hk) c) (out1_right m (ok m k hk) k (names m k hk) c)
theorem same2 (c : Dev nD) : (U5 m (ok m k hk) c (main_v21 : DevRef τ sig) : Vec Ideal S4x768x32x32 .f32)
    = beside (in2 m c) (arr2 (chosen (in0 m c) (in1 m c) (in2 m c) (in3 m c))) :=
  joined2 _ _ _ _ _ _ k (first_ref m k hk c) (out2_left m (ok m k hk) c) (out2_right m (ok m k hk) k (names m k hk) c)
theorem same3 (c : Dev nD) : (U5 m (ok m k hk) c (main_v15 : DevRef τ sig) : Vec Ideal S3x4x384x32x32 .f32)
    = chosen (in0 m c) (in1 m c) (in2 m c) (in3 m c) :=
  picked _ _ _ _ _ k (first_ref m k hk c) (out3 m (ok m k hk) k (names m k hk) c)

end

/-- From memories that agree on the arguments, the two programs end with equal results. -/
theorem same_results : Cert.algebraic_KernelIdeal_ReferenceIdeal (hKernelIdeal := Cert.KernelIdeal.Gen.facts)
    (hReferenceIdeal := Cert.ReferenceIdeal.Gen.facts) := by
  intro m g m' g' _ hm
  obtain ⟨k, hk⟩ := First.exists (Cert.Proof.K.dists m 0)
  refine ⟨fun c => Cert.Proof.K.U5 m (Cert.Proof.K.ok m k hk) c (Cert.KernelIdeal.main_v17 : DevRef Cert.KernelIdeal.τ Cert.KernelIdeal.sig),
    fun c => Cert.Proof.K.U5 m (Cert.Proof.K.ok m k hk) c (Cert.KernelIdeal.main_v19 : DevRef Cert.KernelIdeal.τ Cert.KernelIdeal.sig),
    fun c => Cert.Proof.K.U5 m (Cert.Proof.K.ok m k hk) c (Cert.KernelIdeal.main_v21 : DevRef Cert.KernelIdeal.τ Cert.KernelIdeal.sig),
    fun c => Cert.Proof.K.U5 m (Cert.Proof.K.ok m k hk) c (Cert.KernelIdeal.main_v15 : DevRef Cert.KernelIdeal.τ Cert.KernelIdeal.sig),
    (θ_run (Cert.KernelIdeal.defs (F := Ideal)) _ _).mono (fun r h c => ?_) (kernel_ends m (Cert.Proof.K.ok m k hk) g),
    (θ_run (Cert.ReferenceIdeal.defs (F := Ideal)) _ _).mono (fun r h c => ?_) (Cert.Proof.R.ref_run (F := Ideal) m' g')⟩
  · obtain ⟨⟨a, b, d, e⟩, ha⟩ := h.1 c
    exact ⟨a, b, d, e, ha⟩
  · obtain ⟨a, b, d, e, ha⟩ := h c
    obtain ⟨e0, e1, e2, e3⟩ := hm c
    rw [e0, e1, e2, e3] at a b d e
    exact ⟨a.trans (same0 m k hk c).symm, b.trans (same1 m k hk c).symm, d.trans (same2 m k hk c).symm, e.trans (same3 m k hk c).symm, ha⟩

end Cert.Proof

end
-- ==== Proof.lean ====
module

public import proofs.«01_k».proof.Defs
public import proofs.«01_k».proof.Proof.Gen.KernelIdeal
public import proofs.«01_k».proof.Proof.Gen.ReferenceIdeal
public import proofs.«01_k».proof.Proof.Equal

@[expose] public section

/-- Everything the certificate claims. -/
theorem Cert.Proof.claim : Cert.Claim :=
  ⟨Cert.KernelIdeal.Gen.facts, Cert.ReferenceIdeal.Gen.facts, Cert.Proof.kernel_quiet, Cert.Proof.reference_quiet, Cert.Proof.same_results⟩

end
